-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "eps" .f32 0x35863815#32 ((1 / 999990 : ℝ) : EReal)
  ∧ IdealRules.named_const.Statement Cert.KernelIdeal.κ "conf_less_eps" .f32 0x3F666656#32 ((89999 / 99999 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReference : Cert.Reference.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_Reference (hReference := hReference)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 1 := constantI S_ 1 1#1
  let main_v2 : IVec S_ 1 := (fun x v => Host.reduce IntOp.andi x v reducesTo_S1024_S_d0 h_S_) main_v1 main_c_0
  let main_c_1 : IVec S_ 32 := constantI S_ 32 100000#32
  let main_v3 : IVec S1024 32 := broadcastInDim S1024 ![] bcast_S_S1024 main_c_1
  let main_v4 : IVec S1024 1 := cmpi .slt main_arg1 main_v3
  let main_c_2 : IVec S_ 1 := constantI S_ 1 1#1
  let main_v5 : IVec S_ 1 := (fun x v => Host.reduce IntOp.andi x v reducesTo_S1024_S_d0 h_S_) main_v4 main_c_2
  let main_v6 : IVec S_ 1 := andi main_v2 main_v5
  main_v6
-- ==== Kernel.lean ====
abbrev S1024x100000 : Shape := ⟨2, ![1024, 100000]⟩
abbrev S1024 : Shape := ⟨1, ![1024]⟩
abbrev S100000x1024 : Shape := ⟨2, ![100000, 1024]⟩
abbrev S102400000 : Shape := ⟨1, ![102400000]⟩
abbrev S32 : Shape := ⟨1, ![32]⟩
abbrev S_ : Shape := ⟨0, ![]⟩
abbrev S16 : Shape := ⟨1, ![16]⟩
abbrev S1x1024 : Shape := ⟨2, ![1, 1024]⟩
abbrev S1x1x1 : Shape := ⟨3, ![1, 1, 1]⟩
abbrev S2000x1024 : Shape := ⟨2, ![2000, 1024]⟩
abbrev S1x1x1024 : Shape := ⟨3, ![1, 1, 1024]⟩
abbrev S1 : Shape := ⟨1, ![1]⟩

abbrev nBuf : Table → Nat
  | .hbm => 25
  | .local .tc .vmem => 6
  | .local .scVector .vmem => 3
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S100000x1024, .f32⟩
  | .hbm, ⟨3, _⟩ => ⟨S102400000, .f32⟩
  | .hbm, ⟨4, _⟩ => ⟨S1024, .f32⟩
  | .hbm, ⟨5, _⟩ => ⟨S1x1024, .f32⟩
  | .hbm, ⟨6, _⟩ => ⟨S1x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local .tc .vmem, ⟨0, _⟩ => ⟨S2000x1024, .f32⟩
  | .local .tc .vmem, ⟨1, _⟩ => ⟨S2000x1024, .f32⟩
  | .local .tc .vmem, ⟨2, _⟩ => ⟨S1x1024, .f32⟩
  | .local .tc .vmem, ⟨3, _⟩ => ⟨S1x1x1, .f32⟩
  | .local .tc .vmem, ⟨4, _⟩ => ⟨S1x1024, .f32⟩
  | .local .tc .vmem, ⟨5, _⟩ => ⟨S1x1024, .f32⟩
  | .local .scVector .vmem, ⟨0, _⟩ => ⟨S32, .i32⟩
  | .local .scVector .vmem, ⟨1, _⟩ => ⟨S32, .i32⟩
  | .local .scVector .vmem, ⟨2, _⟩ => ⟨S32, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_scratch0 : Ref sig .tc := ⟨.vmem, 4, rfl⟩
abbrev cc1_scratch1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem2_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S2000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "conf_less_eps" => some ((89999 / 99999 : ℝ) : EReal)
  | "eps" => some ((1 / 999990 : ℝ) : EReal)
  | _ => none
-- ==== Reference.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 52
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1024x1, .f32⟩
  | .hbm, ⟨13, _⟩ => ⟨S1024x100000, .f32⟩
  | .hbm, ⟨14, _⟩ => ⟨S1024x100000, .f32⟩
  | .hbm, ⟨15, _⟩ => ⟨S1024x100000, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S1024x1, .f32⟩
  | .hbm, ⟨20, _⟩ => ⟨S1024x100000, .f32⟩
  | .hbm, ⟨21, _⟩ => ⟨S1024x100000, .f32⟩
  | .hbm, ⟨22, _⟩ => ⟨S_, .f32⟩
  | .hbm, ⟨23, _⟩ => ⟨S_, .f32⟩
  | .hbm, ⟨24, _⟩ => ⟨S1024x100000, .f32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S1024, .i32⟩
  | .hbm, ⟨40, _⟩ => ⟨S1024x1, .i32⟩
  | .hbm, ⟨41, _⟩ => ⟨S1024x1, .i32⟩
  | .hbm, ⟨42, _⟩ => ⟨S1024x2, .i32⟩
  | .hbm, ⟨43, _⟩ => ⟨S1024, .f32⟩
  | .hbm, ⟨44, _⟩ => ⟨S1024x100000, .f32⟩
  | .hbm, ⟨45, _⟩ => ⟨S1024x100000, .f32⟩
  | .hbm, ⟨46, _⟩ => ⟨S1024x100000, .f32⟩
  | .hbm, ⟨47, _⟩ => ⟨S1024x100000, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v2 : Ref sig .tc := ⟨.hbm, 21, rfl⟩
abbrev main_cst_2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_3 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_4 : Ref sig .tc := ⟨.hbm, 33, rfl⟩
abbrev main_v11 : Ref sig .tc := ⟨.hbm, 34, rfl⟩
abbrev main_v12 : Ref sig .tc := ⟨.hbm, 35, rfl⟩
abbrev main_c_5 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_6 : Ref sig .tc := ⟨.hbm, 48, rfl⟩
abbrev main_v24 : Ref sig .tc := ⟨.hbm, 49, rfl⟩
abbrev main_cst_7 : Ref sig .tc := ⟨.hbm, 50, rfl⟩
abbrev main_v25 : Ref sig .tc := ⟨.hbm, 51, rfl⟩

abbrev nD : Nat := 1
abbrev τ : Topo := Topo.v7x

variable {F : FTy → Type} [FloatOps F]
-- ==== Proof.Pre.lean ====
/-
  What the precondition says, taken apart: every target is a class.
-/
module

public import proofs.«01_k».proof.Defs
public import proofs.«01_k».proof.Proof.Gen.Pre_in_range
public import Idealize.ShloMosaic.Lib.ReduceAll
public import Idealize.ShloMosaic.Lib.Affine

@[expose] public section

noncomputable section

namespace Cert.Proof.Pre

open Idealize.ShloMosaic
open Cert.Pre_in_range (S1024x100000 S1024 S_)

variable {F : FTy → Type} [FloatOps F]

/-- A scalar has one index. -/
instance : Subsingleton S_.Idx := ⟨fun a b => funext fun k => k.elim0⟩

/-- The one index of a scalar. -/
def nil0 : S_.Idx := fun k => k.elim0

/-- A word that is at least 0 and below 100000, read signed, is below 100000 read unsigned. -/
theorem word_lt (w : BitVec 32) (h0 : IntOp.cmpi .sge w 0#32 = 1#1) (h1 : IntOp.cmpi .slt w 100000#32 = 1#1) : w.toNat < 100000 := by
  have h2 := IntOp.cmpi_sge.1 h0
  have h3 := IntOp.cmpi_slt.1 h1
  have a0 : (0#32).toInt = 0 := by decide
  have a1 : (100000#32).toInt = 100000 := by decide
  rw [a0] at h2; rw [a1] at h3
  rw [BitVec.toInt_eq_toNat_cond] at h2 h3
  have := w.isLt
  split at h2 <;> omega

/-- The precondition: every target is a class. -/
theorem of_in_range {x : FVec F S1024x100000 .f32} {t : IVec S1024 32} (h : Cert.Pre_in_range.fn (F := F) x t = fun _ => 1#1) (j : S1024.Idx) :
    (t j).toNat < 100000 := by
  have e := congrFun h nil0
  dsimp only [Cert.Pre_in_range.fn] at e
  obtain ⟨e2, e3⟩ := IntOp.andi_eq_one.1 e
  exact word_lt _ (Host.reduce_andi_all _ _ _ _ _ e2 j) (Host.reduce_andi_all _ _ _ _ _ e3 j)

end Cert.Proof.Pre

end
-- ==== Proof.Same.lean ====
/-
  The printed program and its idealization are the same text, but for two constants the idealization names. Where a
  named constant is read as the pattern it was printed with, the two programs are one.
-/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem

/-- A named constant at the bit-exact floats: the pattern the constant was printed with. -/
instance namedBits : Named Bits where
  named _ _ _ bits := Scalar.ofBits _ bits

/-- The two programs' threads, at the bit-exact floats, are the same. -/
theorem threads_eq : Cert.Kernel.threads (F := Bits) = Cert.KernelIdeal.threads (F := Bits) := rfl

/-- The two programs' bodies, at the bit-exact floats, are the same. -/
theorem gather_eq : Cert.Kernel.cc0_gather_kernel (F := Bits) = Cert.KernelIdeal.cc0_gather_kernel (F := Bits) := rfl
/-- The same of the TensorCore's kernel, -/
theorem loss_eq : Cert.Kernel.cc1__loss_kernel (F := Bits) = Cert.KernelIdeal.cc1__loss_kernel (F := Bits) := rfl
/-- of the table of both, -/
theorem defs₀_eq : Cert.Kernel.defs₀ (F := Bits) = Cert.KernelIdeal.defs₀ (F := Bits) := by
  funext p ℓ a
  obtain ⟨_ | _ | n, h⟩ := ℓ
  · cases p <;> rfl
  · cases p <;> rfl
  · exact absurd h (Nat.not_lt.2 (Nat.le_add_left _ _))
/-- and of the whole program's. -/
theorem defs_eq : Cert.Kernel.defs (F := Bits) = Cert.KernelIdeal.defs (F := Bits) := by
  show Cert.KernelIdeal.sc.defs (Pipeline.defs Cert.KernelIdeal.pcfgs (Cert.Kernel.defs₀ (F := Bits))) = _
  rw [defs₀_eq]; rfl

end Cert.Proof.Same

end
-- ==== Proof.Base.lean ====
/-
  The set-up shared by the proof's modules: the program as the launch theorem sees it, the resource algebra, the
  buffers the two kernels and the host touch, and the values the SparseCore leaves.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program: the TensorCore kernel's, and its pipeline's. -/
abbrev ΛP : Labels := Pipeline.Sig Λ₀ (Fin 1) fun p => (pcfgs (F := F) p).Adm
/-- The SparseCore calls of the program, there being one. -/
abbrev K : SparseCore.Cfg τ sig (ΛP (F := F)) 1 := sc (F := F)
/-- The bodies by label: the kernel's, and its pipeline's. -/
abbrev D [FloatOps F] [Named F] : Defs nD τ sig (Elt F) (ΛP (F := F)) := Pipeline.defs pcfgs defs₀
/-- No loop of the bodies needs a variant, -/
abbrev 𝒱₀ : Variants := Variants.none
/-- nor does any of the whole program; -/
abbrev 𝒱 : Variants := 𝒱₀.lift
/-- so the variant is the empty one. -/
abbrev v₀ : 𝒱.V := Sum.inl none

/-- The launch's side conditions on the call's semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

/-- The rounds of the handshakes between the cores, -/
abbrev UH : Type := URounds (GSem nD τ sig) ℕ
/-- the rounds of the pipeline's copies, -/
abbrev UP : Type := UR sig nD τ
/-- and the two together, beside the counters of the transfers. -/
abbrev UU : Type := UH × (UP × Counters)

/-- Where the handshakes' rounds lie in the whole algebra, -/
abbrev EH : Emb UH (MT nD τ sig (HIx 1) (Elt F) ℕ UU ℕ) := embL
/-- and where the pipeline's do. -/
abbrev EP : Emb UP (MT nD τ sig (HIx 1) (Elt F) ℕ UU ℕ) := (Emb.inl : Emb UP (UP × Counters)).trans embR

/-! ## The buffers -/

variable (m : (ℓ : Loc nD τ sig) → Buf (Elt F) ℓ)

/-- The scores, the first argument, on device `d`. -/
abbrev xLoc (d : Dev nD) : Loc nD τ sig := (SparseCore.T d).loc main_arg0
/-- The targets, the second argument. -/
abbrev tLoc (d : Dev nD) : Loc nD τ sig := (SparseCore.T d).loc main_arg1
/-- The flat list of scores that the SparseCore reads. -/
abbrev fLoc (d : Dev nD) : Loc nD τ sig := (SparseCore.T d).loc main_v1
/-- The gathered scores that it writes. -/
abbrev gLoc (d : Dev nD) : Loc nD τ sig := (SparseCore.T d).loc main_v2

/-- The class axis of the scores brought to the front, as the host leaves it. -/
def turned (d : Dev nD) : Vec F S100000x1024 .f32 :=
  transpose S100000x1024 [1, 0] (m (xLoc d) : Vec F S1024x100000 .f32) transposes_S1024x100000_S100000x1024_1_0
/-- The scores as the flat list the gather reads: word `c * 1024 + b` is row `b`'s score of class `c`. -/
def flat (d : Dev nD) : Vec F S102400000 .f32 :=
  shapeCast S102400000 (turned m d) shapeCasts_S100000x1024_S102400000

/-- Place `n` of the flat list. -/
def flatIx (n : ℕ) : S102400000.Idx
  | 0 => ⟨n % 102400000, Nat.mod_lt _ (by decide)⟩

/-- What the SparseCore is to leave: row `b`'s score of its own target class. -/
def gath (d : Dev nD) : Vec F S1024 .f32 := fun j =>
  flat m d (flatIx (((m (tLoc d) : Vec F S1024 .i32) j).toNat * 1024 + (j 0).val))

/-- What the proof asks of the launch memory: every target is a class. -/
def PreOK : Prop := ∀ (d : Dev nD) (j : S1024.Idx), (((m (tLoc d) : Vec F S1024 .i32) j)).toNat < 100000

end Cert.Proof.Run

end
-- ==== Proof.Gather.lean ====
/-
  The SparseCore call: thirty-two tasks, each fetching its 32 targets, forming the 32 places of the flat score list,
  gathering the words there and writing them to its own 32 places of the result.
-/
module

public import proofs.«01_k».proof.Proof.Base
public import Idealize.ShloMosaic.Lib.Pipeline.Value

@[expose] public section

noncomputable section

namespace Cert.Proof.Run

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "fV" => (Memref.whole Cert.KernelIdeal.main_v1_scv : Memref Cert.KernelIdeal.sig Kind.scVector Space.hbm Cert.KernelIdeal.S102400000 EltTy.f32)
local notation "tV" => (Memref.whole Cert.KernelIdeal.main_arg1_scv : Memref Cert.KernelIdeal.sig Kind.scVector Space.hbm Cert.KernelIdeal.S1024 EltTy.i32)
local notation "gV" => (Memref.whole Cert.KernelIdeal.main_v2_scv : Memref Cert.KernelIdeal.sig Kind.scVector Space.hbm Cert.KernelIdeal.S1024 EltTy.f32)
local notation "aV" => (Memref.whole Cert.KernelIdeal.cc0_scratch0 : Memref Cert.KernelIdeal.sig Kind.scVector Space.vmem Cert.KernelIdeal.S32 EltTy.i32)
local notation "oV" => (Memref.whole Cert.KernelIdeal.cc0_scratch1 : Memref Cert.KernelIdeal.sig Kind.scVector Space.vmem Cert.KernelIdeal.S32 EltTy.i32)
local notation "rV" => (Memref.whole Cert.KernelIdeal.cc0_scratch2 : Memref Cert.KernelIdeal.sig Kind.scVector Space.vmem Cert.KernelIdeal.S32 EltTy.f32)

variable (m : (ℓ : Loc nD τ sig) → Buf (Elt F) ℓ)

/-! ## The thirty-two parts of a list of 1024 -/

/-- A list of 1024 is cut in thirty-two equal parts. -/
theorem parts : 32 ∣ S1024.size 0 := ⟨32, rfl⟩
/-- Places `32 w` to `32 w + 31`. -/
abbrev part (w : Fin 32) : Rect S1024 := Rect.part (s := S1024) (a₀ := 0) parts w
/-- The indices of part `w`. -/
abbrev partSet (w : Fin 32) : Finset S1024.Idx := (part w).set
/-- The part that task `i` of SparseCore `c` works on. -/
def task (c : Fin 2) (i : Fin 16) : Fin 32 := ⟨2 * i.val + c.val, by omega⟩
/-- One of thirty-two shares of a buffer that all tasks read. -/
abbrev share (w : Fin 32) : PosShare TreeShare := leaf 5 fullShare w

/-! ## What the handshakes carry -/

/-- Part `w` of the targets, held. -/
abbrev tPart (d : Dev nD) (w : Fin 32) : sProp 𝕄 := tLoc d ↦[partSet w]{fullShare} m (tLoc d)
/-- A share of the flat scores, held. -/
abbrev fShare (d : Dev nD) (w : Fin 32) : sProp 𝕄 := fLoc d ↦{share w} flat m d
/-- Part `w` of the result, held at `f`. -/
abbrev gPart (d : Dev nD) (w : Fin 32) (f : Buf (Elt F) (gLoc d)) : sProp 𝕄 := gLoc d ↦[partSet w]{fullShare} f

/-- What a task is handed: its targets, a share of the scores, and its part of the result as it was. -/
abbrev taskGo (d : Dev nD) (w : Fin 32) : sProp 𝕄 := iprop(tPart m d w ∗ fShare m d w ∗ gPart d w (m (gLoc d)))
/-- What it brings back: the same, the result's part now the gathered scores. -/
abbrev taskDone (d : Dev nD) (w : Fin 32) : sProp 𝕄 := iprop(tPart m d w ∗ fShare m d w ∗ gPart d w (gath m d))

/-- The call runs on two SparseCores, -/
theorem nCore_eq : (K (F := F)).nCore 0 = 2 := rfl
/-- and on sixteen subcores of each. -/
theorem nSub_eq : (K (F := F)).nSub 0 = 16 := rfl

/-- Each task is handed its part of the targets, a share of the flat scores and its part of the result, and brings
    them back with the result's part filled in; a SparseCore's hand is its tasks'. -/
def P : (K (F := F)).Pay (nD := nD) (Val := Elt F) (Name := ℕ) (U := UU) where
  st := fun q d c => match q with | 0 => bigSep Finset.univ fun i : Fin ((K (F := F)).nSub 0) => taskGo m d (task (Fin.cast nCore_eq c) (Fin.cast nSub_eq i))
  dn := fun q d c => match q with | 0 => bigSep Finset.univ fun i : Fin ((K (F := F)).nSub 0) => taskDone m d (task (Fin.cast nCore_eq c) (Fin.cast nSub_eq i))
  go := fun q d c i => match q with | 0 => taskGo m d (task (Fin.cast nCore_eq c) (Fin.cast nSub_eq i))
  td := fun q d c i => match q with | 0 => taskDone m d (task (Fin.cast nCore_eq c) (Fin.cast nSub_eq i))
  x := fun _ _ => iprop(emp)

/-- What the handshakes carry can be kept in an invariant. -/
instance P_storable : (P (F := F) m).IsStorable where
  st q d c := match q with
    | 0 => (inferInstance : BI.Storable (upEmb : UEmb _ 𝕄) (bigSep Finset.univ fun i : Fin ((K (F := F)).nSub 0) => taskGo m d (task (Fin.cast nCore_eq c) (Fin.cast nSub_eq i))))
  dn q d c := match q with
    | 0 => (inferInstance : BI.Storable (upEmb : UEmb _ 𝕄) (bigSep Finset.univ fun i : Fin ((K (F := F)).nSub 0) => taskDone m d (task (Fin.cast nCore_eq c) (Fin.cast nSub_eq i))))
  go q d c i := match q with
    | 0 => (inferInstance : BI.Storable (upEmb : UEmb _ 𝕄) (taskGo m d (task (Fin.cast nCore_eq c) (Fin.cast nSub_eq i))))
  td q d c i := match q with
    | 0 => (inferInstance : BI.Storable (upEmb : UEmb _ 𝕄) (taskDone m d (task (Fin.cast nCore_eq c) (Fin.cast nSub_eq i))))

/-- A SparseCore's hand is its tasks' hands, both ways. -/
theorem vecSplit : (K (F := F)).VecSplit' (P m) 0 := by
  intro d c
  unfold P
  iintro H; imodintro
  isplitl [H]; · iexact H
  iintro H; iexact H

/-! ## One task -/

section Tile

variable (d : Dev nD) (L : grid0.Coords)

/-- The SparseCore of the grid place `L`, -/
abbrev cV (L : grid0.Coords) : Fin τ.nSC := (L 0).castLE hcore0
/-- and its subcore. -/
abbrev jV (L : grid0.Coords) : Fin τ.nSub := (L 1).castLE hsub0
/-- The grid has two SparseCores, -/
theorem bound0 : grid0.bound 0 = 2 := rfl
/-- and sixteen subcores. -/
theorem bound1 : grid0.bound 1 = 16 := rfl
/-- The part the task at grid place `L` works on. -/
abbrev wL (L : grid0.Coords) : Fin 32 := task (Fin.cast bound0 (L 0)) (Fin.cast bound1 (L 1))

/-- The part as the kernel's own address arithmetic names it, -/
abbrev partK (L : grid0.Coords) : Rect S1024 := Rect.unit (s := S1024) (k0_off1 L) S32.size (k0_off1_inb L)
/-- the targets there, -/
abbrev tPartK (L : grid0.Coords) : Memref sig .scVector .hbm S32 .i32 := (tV).slice (partK L) (fun _ => rfl)
/-- the result there, -/
abbrev gPartK (L : grid0.Coords) : Memref sig .scVector .hbm S32 .f32 := (gV).slice (partK L) (fun _ => rfl)
/-- and the flat scores, all of them, as the gather names them. -/
abbrev fAllK : Memref sig .scVector .hbm S102400000 .f32 :=
  (fV).slice (Rect.unit (s := S102400000) ![0] S102400000.size inb_S102400000_S102400000_0) (fun _ => rfl)

/-- The kernel's arithmetic names the task's part. -/
theorem partK_eq : partK L = part (wL L) := by
  unfold partK part Rect.part Rect.block
  congr 1 <;> funext a
  · rw [k0_off1_eq]
    match a with
    | 0 =>
      show 64 * (L 1).val + 32 * (L 0).val = (2 * (L 1).val + (L 0).val) * (1024 / 32)
      omega
  · match a with
    | 0 => simp [Shape.partSize]

/-- So its slice of the targets has that part's indices, -/
theorem set_tPartK : (tPartK L).view.set = partSet (wL L) := by
  show ((View.whole (main_arg1_scv : Ref sig .scVector)).slice (partK L)).set = _
  rw [View.set_slice, partK_eq]; exact Finset.map_refl
/-- and its slice of the result too. -/
theorem set_gPartK : (gPartK L).view.set = partSet (wL L) := by
  show ((View.whole (main_v2_scv : Ref sig .scVector)).slice (partK L)).set = _
  rw [View.set_slice, partK_eq]; exact Finset.map_refl

/-- The slice of the targets held by the kernel's name is the part held, -/
theorem pts_tPartK (f : Buf (Elt F) (tLoc d)) :
    ((tPartK L).view.loc (V d (cV L) (jV L)) ↦[(tPartK L).view.set]{fullShare} f : sProp 𝕄) = tLoc d ↦[partSet (wL L)]{fullShare} f := by
  rw [set_tPartK]
/-- and the slice of the result as well. -/
theorem pts_gPartK (f : Buf (Elt F) (gLoc d)) :
    ((gPartK L).view.loc (V d (cV L) (jV L)) ↦[(gPartK L).view.set]{fullShare} f : sProp 𝕄) = gLoc d ↦[partSet (wL L)]{fullShare} f := by
  rw [set_gPartK]
/-- The flat scores held by the kernel's name are the flat scores held, -/
theorem pts_fV (q : PosShare TreeShare) (f : Buf (Elt F) (fLoc d)) :
    ((fV).view.loc (V d (cV L) (jV L)) ↦{q} f : sProp 𝕄) = fLoc d ↦{q} f := rfl
/-- and so are the scratch of targets, -/
theorem pts_aV (f : Buf (Elt F) ((V d (cV L) (jV L)).loc cc0_scratch0)) :
    ((aV).view.loc (V d (cV L) (jV L)) ↦{fullShare} f : sProp 𝕄) = (V d (cV L) (jV L)).loc cc0_scratch0 ↦{fullShare} f := rfl
/-- the scratch of places, -/
theorem pts_oV (f : Buf (Elt F) ((V d (cV L) (jV L)).loc cc0_scratch1)) :
    ((oV).view.loc (V d (cV L) (jV L)) ↦{fullShare} f : sProp 𝕄) = (V d (cV L) (jV L)).loc cc0_scratch1 ↦{fullShare} f := rfl
/-- and the scratch of gathered scores. -/
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

/-- The semaphore the gather counts on, -/
abbrev cellG (d : Dev nD) (c : Fin τ.nSC) (i : Fin τ.nSub) : GSem nD τ sig := (V d c i, .dma cc0_scratch3.sem)
/-- the one of the targets' copy, -/
abbrev cellA (d : Dev nD) (c : Fin τ.nSC) (i : Fin τ.nSub) : GSem nD τ sig := (V d c i, .dma cc0_scoped0.sem)
/-- and the one of the result's. -/
abbrev cellB (d : Dev nD) (c : Fin τ.nSC) (i : Fin τ.nSub) : GSem nD τ sig := (V d c i, .dma cc0_scoped1.sem)

/-- The three cells the task counts its copies on are among its subcore's own. -/
theorem ownSems0_V :
    (ownSems0 (V d (cV L) (jV L)) : sProp 𝕄)
      = iprop(semVal (cellG d (cV L) (jV L)) 0 ∗ semVal (cellA d (cV L) (jV L)) 0 ∗ semVal (cellB d (cV L) (jV L)) 0
          ∗ bigSep ((((ownCells (V d (cV L) (jV L))).erase (cellG d (cV L) (jV L))).erase (cellA d (cV L) (jV L))).erase (cellB d (cV L) (jV L))) fun g => semVal g 0) := by
  unfold SparseCore.Cfg.ownSems0
  rw [SparseCore.bigSep_erase' ((mem_ownCells (g := cellG d (cV L) (jV L))).mpr ⟨rfl, by
      show (SemLoc.dma cc0_scratch3.sem : SemLoc sig).isScoped .scVector = true; decide⟩),
    SparseCore.bigSep_erase' (Finset.mem_erase.mpr ⟨by simp [cellG, cellA]; decide, (mem_ownCells (g := cellA d (cV L) (jV L))).mpr ⟨rfl, by
      show (SemLoc.dma cc0_scoped0.sem : SemLoc sig).isScoped .scVector = true; decide⟩⟩),
    SparseCore.bigSep_erase' (Finset.mem_erase.mpr ⟨by simp [cellA, cellB]; decide, Finset.mem_erase.mpr ⟨by simp [cellG, cellB]; decide,
      (mem_ownCells (g := cellB d (cV L) (jV L))).mpr ⟨rfl, by show (SemLoc.dma cc0_scoped1.sem : SemLoc sig).isScoped .scVector = true; decide⟩⟩⟩)]

/-- The three scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ### The places the task forms -/

/-- The task's own first place. -/
abbrev base (L : grid0.Coords) : ℕ := 64 * (L 1).val + 32 * (L 0).val

/-- The flat place of class word `t`'s score for row `n`, as the machine's words. -/
def placeW (t : BitVec 32) (n : ℕ) : BitVec 32 := t * 1024#32 + BitVec.ofNat 32 n

/-- A class below 100000 and a row below 1024 leave the flat place free of wrapping. -/
theorem placeW_toNat {t : BitVec 32} {n : ℕ} (ht : t.toNat < 100000) (hn : n < 1024) : (placeW t n).toNat = t.toNat * 1024 + n := by
  unfold placeW
  rw [BitVec.toNat_add, BitVec.toNat_mul, BitVec.toNat_ofNat, BitVec.toNat_ofNat]
  omega

/-- A task's thirty-two places lie in the list. -/
theorem base_le : base L + 32 ≤ 1024 := by
  have h0 : (L 0).val < 2 := (L 0).isLt
  have h1 : (L 1).val < 16 := (L 1).isLt
  unfold base; omega

/-- A word built from the grid place by the machine's word operations. -/
theorem word_base (k n : ℕ) :
    IntOp.addi (Scalar.addi (Scalar.muli (Scalar.addi (Scalar.muli (BitVec.ofNat 32 (L 1).val) 2#32) (BitVec.ofNat 32 (L 0).val)) 32#32) (BitVec.ofNat 32 k))
      (BitVec.ofNat 32 n) = BitVec.ofNat 32 (base L + (k + n)) := by
  show (((BitVec.ofNat 32 (L 1).val * 2#32 + BitVec.ofNat 32 (L 0).val) * 32#32 + BitVec.ofNat 32 k) + BitVec.ofNat 32 n) = _
  apply BitVec.eq_of_toNat_eq
  simp only [BitVec.toNat_add, BitVec.toNat_mul, BitVec.toNat_ofNat, base]
  omega

/-- The lane's own number. -/
theorem lane_at (y : S16.Idx) : iota .scVector S16 32 [0] iota_S16_d0_w32_scVector y = BitVec.ofNat 32 (y 0).val := by
  unfold iota
  show BitVec.ofNat 32 (0 * 16 + (y 0).val) = _
  rw [Nat.zero_mul, Nat.zero_add]

/-- The first sixteen places the task forms. -/
theorem pay1_at (v : Vec F S16 .i32) (y : S16.Idx) : k0_pay1 L v y = placeW (v y) (base L + (0 + (y 0).val)) := by
  unfold k0_pay1
  simp only [shapeCast_self]
  rw [placeW, ← word_base, ← lane_at]
  rfl
/-- The other sixteen. -/
theorem pay2_at (v : Vec F S16 .i32) (y : S16.Idx) : k0_pay2 L v y = placeW (v y) (base L + (16 + (y 0).val)) := by
  unfold k0_pay2
  simp only [shapeCast_self]
  rw [placeW, ← word_base, ← lane_at]
  rfl

/-- The list the gather reads: the flat places of the task's rows at their targets. -/
theorem list_at (fa : Buf (Elt F) ((V d (cV L) (jV L)).loc cc0_scratch0)) (fo : Buf (Elt F) ((V d (cV L) (jV L)).loc cc0_scratch1))
    (pay : S32.Idx → Elt F .i32) (hpay : pay = (tPartK L).view.read (Elt F) (m (tLoc d))) (x : S32.Idx) :
    (oV).view.read (Elt F) ((oV).view.writes (Elt F) fo
      [⟨Rect.unit (s := S32) ![16] S16.size inb_S32_S16_16, k0_pay2 L (View.readAt (Elt F) (aV).view (Rect.unit (s := S32) ![16] S16.size inb_S32_S16_16).toLoadRect
          (View.write (Elt F) (aV).view fa pay Finset.univ))⟩,
       ⟨Rect.unit (s := S32) ![0] S16.size inb_S32_S16_0, k0_pay1 L (View.readAt (Elt F) (aV).view (Rect.unit (s := S32) ![0] S16.size inb_S32_S16_0).toLoadRect
          (View.write (Elt F) (aV).view fa pay Finset.univ))⟩]) x
      = placeW (m (tLoc d) ((tPartK L).view.emb x)) (base L + (x 0).val) := by
  have hw : View.write (Elt F) (aV).view fa pay Finset.univ = pay := View.write_whole_univ _ _ _
  have hp : ∀ z : S32.Idx, pay z = (m (tLoc d) ((tPartK L).view.emb z) : BitVec 32) := fun z => by
    rw [hpay]; exact (View.read_apply _ _).trans (cast_eq _ _)
  rw [hw]
  refine View.read_writes_apply_of_pieces (oV).view fo (fun x : S32.Idx => (placeW (m (tLoc d) ((tPartK L).view.emb x)) (base L + (x 0).val) : Elt F .i32)) _ ?_ x ?_
  · intro p hp'
    rcases List.mem_cons.mp hp' with rfl | hp'
    · intro y
      refine (pay2_at L _ y).trans ?_
      show placeW (pay ((Rect.unit (s := S32) ![16] S16.size inb_S32_S16_16).emb y)) _ = placeW _ (base L + (16 + 1 * (y 0).val))
      rw [hp, Nat.one_mul]
    · obtain rfl := List.mem_singleton.mp hp'
      intro y
      refine (pay1_at L _ y).trans ?_
      show placeW (pay ((Rect.unit (s := S32) ![0] S16.size inb_S32_S16_0).emb y)) _ = placeW _ (base L + (0 + 1 * (y 0).val))
      rw [hp, Nat.one_mul]
  · by_cases h : (x 0).val < 16
    · refine ⟨_, List.mem_cons_of_mem _ List.mem_cons_self, (Rect.mem_set_unit (inb := inb_S32_S16_0)).mpr ?_⟩
      intro a; match a with
      | 0 => exact ⟨Nat.zero_le _, by show (x 0).val < 0 + 16; omega⟩
    · refine ⟨_, List.mem_cons_self, (Rect.mem_set_unit (inb := inb_S32_S16_16)).mpr ?_⟩
      have h' : (x 0).val < 32 := (x 0).isLt
      intro a; match a with
      | 0 => exact ⟨by show 16 ≤ (x 0).val; omega, by show (x 0).val < 16 + 16; omega⟩

/-- Place `x` of the task's part is place `base + x` of the list. -/
theorem gPartK_emb (x : S32.Idx) : (((gPartK L).view.emb x : S1024.Idx) 0).val = base L + (x 0).val := by
  show k0_off1 L 0 + 1 * (x 0).val = _
  rw [k0_off1_eq, Nat.one_mul]; rfl

/-- The word gathered for the task's place `x` is its row's score of its target. -/
theorem gather_at (hpre : PreOK m) (idx : S32.Idx → Elt F .i32) (hidx : ∀ x, idx x = placeW (m (tLoc d) ((tPartK L).view.emb x)) (base L + (x 0).val))
    (hn : S32.numel = S32.size gathers_S102400000_S32.axis') (hin : ∀ x, (idx x).toNat < S102400000.size gathers_S102400000_S32.axis) (x : S32.Idx) :
    SparseCore.gatherPayload gathers_S102400000_S32 ((fAllK).view.read (Elt F) (flat m d)) (SparseCore.rows idx hn hin) x
      = gath m d ((gPartK L).view.emb x) := by
  have hb : base L + (x 0).val < 1024 := by
    have := base_le L; have h : (x 0).val < 32 := (x 0).isLt; omega
  have ht : BitVec.toNat (m (tLoc d) ((tPartK L).view.emb x)) < 100000 := hpre d _
  have hx : (idx x).toNat = BitVec.toNat (m (tLoc d) ((tPartK L).view.emb x)) * 1024 + (base L + (x 0).val) := by
    rw [hidx]; exact placeW_toNat ht hb
  have hrow : S32.rowMajor.symm ((x 0).cast hn.symm) = x := by
    rw [Equiv.symm_apply_eq]
    exact Fin.ext (Shape.rowMajor_val_one x).symm
  unfold SparseCore.gatherPayload gath
  refine ((View.read_apply _ _).trans (cast_eq _ _)).trans (congrArg (flat m d) ?_)
  funext a
  match a with
  | 0 =>
    apply Fin.ext
    show 0 + 1 * (gathers_S102400000_S32.idx (SparseCore.rows idx hn hin) x 0).val = _ % _
    rw [show gathers_S102400000_S32.idx (SparseCore.rows idx hn hin) x 0 = SparseCore.rows idx hn hin (x 0) from
      Shape.Gathers.idx_axis gathers_S102400000_S32 _ x, gPartK_emb]
    show 0 + 1 * (idx (S32.rowMajor.symm ((x 0).cast hn.symm))).toNat = (BitVec.toNat (m (tLoc d) ((tPartK L).view.emb x)) * 1024 + (base L + (x 0).val)) % 102400000
    rw [hrow, hx]
    omega

/-- The task's part of the result, written with a list that holds its rows' scores, holds them. -/
theorem out_at (pay : S32.Idx → Elt F .f32) (hpay : ∀ x, pay x = gath m d ((gPartK L).view.emb x)) :
    ∀ j ∈ (gPartK L).view.set, (gPartK L).view.writes (Elt F) (m (gLoc d)) [⟨Rect.whole S32, pay⟩] j = gath m d j := by
  intro j hj
  obtain ⟨x, -, rfl⟩ := Finset.mem_map.mp hj
  have h := View.read_writes_apply_of_pieces (gPartK L).view (m (gLoc d)) pay [⟨Rect.whole S32, pay⟩]
    (by
      intro p hp; obtain rfl := List.mem_singleton.mp hp
      intro y; exact congrArg pay (by simp)) x ⟨_, List.mem_cons_self, by
      show x ∈ (Rect.whole S32).set; rw [Rect.set_whole]; exact Finset.mem_univ _⟩
  rw [← hpay x, ← h]
  exact ((View.read_apply _ _).trans (cast_eq _ _)).symm

variable [FloatOps F] [Named F]

set_option maxHeartbeats 4000000 in
/-- One task, from its hand to its hand with its part of the result filled in. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ taskGo m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L fV (Memref.isWhole_whole _) tV (Memref.isWhole_whole _) gV (Memref.isWhole_whole _)
            aV (Memref.isWhole_whole _) oV (Memref.isWhole_whole _) rV (Memref.isWhole_whole _) cc0_scratch3 cc0_scoped0 cc0_scoped1)
          fun _ => iprop(taskDone m d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Ht, Hf, Hg⟩, ⟨⟨%fa, Ha⟩, ⟨%fo, Ho⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tPartK (F := F) d L _).symm) $$ Ht
  ihave Hg' := (Entails.of_eq (pts_gPartK (F := F) d L _).symm) $$ Hg
  ihave Hf' := (Entails.of_eq (pts_fV (F := F) d L _ _).symm) $$ Hf
  ihave Ha' := (Entails.of_eq (pts_aV (F := F) d L _).symm) $$ Ha
  ihave Ho' := (Entails.of_eq (pts_oV (F := F) d L _).symm) $$ Ho
  ihave Hr' := (Entails.of_eq (pts_rV (F := F) d L _).symm) $$ Hr
  sl_exec
  have hlist := list_at m d L fa (oV).view.junk (tile_body.sl.dma0 m d L) rfl
  have hin : ∀ x, ((oV).view.read (Elt F) ((oV).view.writes (Elt F) (oV).view.junk (tile_body.sl.Ho'_2 m d L fa)) x).toNat
      < S102400000.size gathers_S102400000_S32.axis := by
    intro x
    refine lt_of_eq_of_lt (congrArg BitVec.toNat (hlist x)) ?_
    have hn : base L + (x 0).val < 1024 := by
      have := base_le L; have h : (x 0).val < 32 := (x 0).isLt; omega
    rw [placeW_toNat (hpre d _) hn]
    have := hpre d ((tPartK L).view.emb x)
    show _ < 102400000
    omega
  sl_exec
  sl_step
  isplitl [Ht' Hf' Hg']
  · isplitl [Ht']; · iapply (Entails.of_eq (pts_tPartK (F := F) d L _)); iexact Ht'
    isplitl [Hf']; · iexact Hf'
    have hval : ∀ j ∈ (gPartK L).view.set, (gPartK L).view.writes (Elt F) (m (gLoc d)) [⟨Rect.whole S32, tile_body.sl.dma0_1 m d L fa fr hin⟩] j = gath m d j := by
      refine out_at m d L _ fun x => ?_
      refine Eq.trans ?_ (gather_at m d L hpre _ hlist rfl hin x)
      refine View.read_writes_apply_of_pieces (rV).view fr (tile_body.sl.gather0 m d L fa hin) [⟨Rect.whole S32, tile_body.sl.gather0 m d L fa hin⟩] ?_ x ?_
      · intro p hp; obtain rfl := List.mem_singleton.mp hp
        intro y; exact congrArg (tile_body.sl.gather0 m d L fa hin) (funext fun a => Fin.ext (by show (y a).val = 0 + 1 * (y a).val; omega))
      · refine ⟨_, List.mem_cons_self, ?_⟩
        show x ∈ (Rect.whole S32).set; rw [Rect.set_whole]; exact Finset.mem_univ _
    ihave Hg := (Entails.of_eq (pointsTo_congr hval)) $$ Hg'
    iapply (Entails.of_eq (pts_gPartK (F := F) d L _)); iexact Hg
  isplitl [Ha' Ho' Hr' Hbufs]
  · isplitl [Ha']; · iexists _; iexact Ha'
    isplitl [Ho']; · iexists _; iexact Ho'
    isplitl [Hr']; · iexists _; iexact Hr'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ### The obligation the launch asks of a task -/

/-- The grid place of a SparseCore and a tile. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs for the call. -/
theorem defs₀_vector (c : Fin τ.nSC) (s : Fin τ.nSub) :
    defs₀ (F := F) (.scVector c s) 0 ()
      = SparseCore.onTile hcore0 hsub0 (fun c s => cc0_gather_kernel (coordsV c s)
          fV (Memref.isWhole_whole _) tV (Memref.isWhole_whole _) gV (Memref.isWhole_whole _)
          aV (Memref.isWhole_whole _) oV (Memref.isWhole_whole _) rV (Memref.isWhole_whole _) cc0_scratch3 cc0_scoped0 cc0_scoped1) ⟨⟩ c s := rfl

omit [FloatOps F] [Named F] in
/-- The waits a task records are none of the call's own. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task runs from its hand to its results. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.Run

end
-- ==== Proof.Loss.lean ====
/-
  The TensorCore's call: one grid point of its body run by values, the running sums its two scratch rows hold from
  point to point, and the call as a region of the host's program.
-/
module

public import proofs.«01_k».proof.Proof.Base
public import Idealize.ShloMosaic.Lib.Pipeline.FrameBody
public import Idealize.ShloMosaic.Lib.Pipeline.Value
public import Idealize.ShloMosaic.Lib.Pipeline.ValueKit

@[expose] public section

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ
/-- Whether a grid point is the first, as the kernel computes it. -/
def firstBit (i : grid1.Coords) : BitVec 1 := Scalar.cmpi .ne (Scalar.extui (Scalar.cmpi .eq (BitVec.ofNat 32 (i 0).val) 0#32) : BitVec 32) 0#32

section Body
variable (c : Dev nD) (i : grid1.Coords) (M1 : Memref sig .tc .vmem S2000x1024 .f32) (h1 : M1.IsWhole)
  (M2 : Memref sig .tc .vmem S1x1024 .f32) (h2 : M2.IsWhole) (M3 : Memref sig .tc .vmem S1x1x1 .f32) (h3 : M3.IsWhole)
  (M4 : Memref sig .tc .vmem S1x1024 .f32) (h4 : M4.IsWhole) (M5 : Memref sig .tc .vmem S1x1024 .f32) (h5 : M5.IsWhole)

/-- A buffer held whole through memref `M` at `f`. -/
abbrev pt {sp : Space} {S : Shape} {e : EltTy} (M : Memref sig .tc sp S e) (f : Buf (Elt F) (M.view.loc (c : Thread nD τ))) : sProp 𝕄 :=
  M.view.loc (c : Thread nD τ) ↦{fullShare} f

/-- The kernel's accesses to its matrices start at their first element, -/
theorem off2 : (![0, 0] : Fin 2 → ℕ) = fun _ => 0 := by decide
/-- and the one to its result at that. -/
theorem off3 : (![0, 0, 0] : Fin 3 → ℕ) = fun _ => 0 := by decide

omit [FloatOps F] [Named F] in
/-- A load of a whole block of scores reads what the memref reads. -/
theorem readAt_block {sp : Space} (v : View sig .tc sp S2000x1024 .f32) (f : v.ty.Contents (Elt F)) (inb : ∀ a, (![0, 0] : Fin 2 → ℕ) a + S2000x1024.size a ≤ S2000x1024.size a) :
    v.readAt (Elt F) (Rect.unit (s := S2000x1024) ![0, 0] S2000x1024.size inb).toLoadRect f = v.read (Elt F) f := by
  rw [View.readAt_eq_ld]; exact View.ld_unit_zero off2 inb _

omit [FloatOps F] [Named F] in
/-- A load of a whole row reads what the memref reads. -/
theorem readAt_row {sp : Space} (v : View sig .tc sp S1x1024 .f32) (f : v.ty.Contents (Elt F)) (inb : ∀ a, (![0, 0] : Fin 2 → ℕ) a + S1x1024.size a ≤ S1x1024.size a) :
    v.readAt (Elt F) (Rect.unit (s := S1x1024) ![0, 0] S1x1024.size inb).toLoadRect f = v.read (Elt F) f := by
  rw [View.readAt_eq_ld]; exact View.ld_unit_zero off2 inb _

omit [FloatOps F] [Named F] in
/-- A store to all of a memref, last, leaves its payload there. -/
theorem read_writes_all {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  subst h; funext y
  have h := View.read_writes_cons_emb v f (Rect.whole S) w L y
  rwa [Rect.emb_whole_apply] at h

/-- A row held through memref `M`, reading `X`. -/
abbrev rowAt (M : Memref sig .tc .vmem S1x1024 .f32) (X : Vec F S1x1024 .f32) : sProp 𝕄 :=
  iprop(∃ f, ⌜M.view.read (Elt F) f = X⌝ ∗ pt c M f)

set_option maxHeartbeats 400000 in
/-- A point that is neither the first nor the last adds its block's column sums to the two rows. -/
theorem body_mid (hA : ¬ firstBit i = 1#1) (hB : ¬ k1_cond2 i = 1#1) (f1 : Buf (Elt F) (M1.view.loc (c : Thread nD τ)))
    (X : Vec F S2000x1024 .f32) (hX : M1.view.read (Elt F) f1 = X)
    (s r : Vec F S1x1024 .f32) (Q : PUnit → sProp 𝕄) :
    iprop(pt c M1 f1 ∗ rowAt c M4 s ∗ rowAt c M5 r
      ∗ (iprop(pt c M1 f1 ∗ rowAt c M4 (k1_pay4 X s) ∗ rowAt c M5 (k1_pay5 X r)) -∗ Q ⟨⟩))
      ⊢ wp frame (wpE (defs₀ (F := F)) 𝒱₀ (c : Thread nD τ) none) Set.univ (cc1__loss_kernel i M1 h1 M2 h2 M3 h3 M4 h4 M5 h5) Q := by
  simp only [cc1__loss_kernel_eq_skeleton]; unfold cc1__loss_kernel_skel
  iintro ⟨H1, ⟨%f4, %hs, Hs⟩, ⟨%f5, %hr, Hr⟩, Hk⟩
  unfold firstBit at hA
  sl_exec
  sl_step
  iapply Hk
  isplitl [H1]; · iexact H1
  isplitl [Hs]
  · iexists _; isplitr
    swap; · iexact Hs
    ipureintro
    refine (read_writes_all M4.view f4 off2 _ _ []).trans ?_
    rw [readAt_block, readAt_row, hX, hs]
  · iexists _; isplitr
    swap; · iexact Hr
    ipureintro
    refine (read_writes_all M5.view f5 off2 _ _ []).trans ?_
    rw [readAt_block, readAt_row, hX, hr]

set_option maxHeartbeats 400000 in
/-- The first point empties the two rows and adds its block's column sums. -/
theorem body_first (hA : firstBit i = 1#1) (hB : ¬ k1_cond2 i = 1#1) (f1 : Buf (Elt F) (M1.view.loc (c : Thread nD τ)))
    (X : Vec F S2000x1024 .f32) (hX : M1.view.read (Elt F) f1 = X)
    (f4 : Buf (Elt F) (M4.view.loc (c : Thread nD τ))) (f5 : Buf (Elt F) (M5.view.loc (c : Thread nD τ))) (Q : PUnit → sProp 𝕄) :
    iprop(pt c M1 f1 ∗ pt c M4 f4 ∗ pt c M5 f5
      ∗ (iprop(pt c M1 f1 ∗ rowAt c M4 (k1_pay4 X k1_pay2) ∗ rowAt c M5 (k1_pay5 X k1_pay3)) -∗ Q ⟨⟩))
      ⊢ wp frame (wpE (defs₀ (F := F)) 𝒱₀ (c : Thread nD τ) none) Set.univ (cc1__loss_kernel i M1 h1 M2 h2 M3 h3 M4 h4 M5 h5) Q := by
  simp only [cc1__loss_kernel_eq_skeleton]; unfold cc1__loss_kernel_skel
  iintro ⟨H1, Hs, Hr, Hk⟩
  unfold firstBit at hA
  sl_exec
  sl_step
  iapply Hk
  isplitl [H1]; · iexact H1
  isplitl [Hs]
  · iexists _; isplitr
    swap; · iexact Hs
    ipureintro
    refine (read_writes_all M4.view f4 off2 _ _ _).trans ?_
    rw [readAt_block, hX]
    exact congrArg (k1_pay4 X) (View.readCov_unit_zero M4.view off2 _ _)
  · iexists _; isplitr
    swap; · iexact Hr
    ipureintro
    refine (read_writes_all M5.view f5 off2 _ _ _).trans ?_
    rw [readAt_block, hX]
    exact congrArg (k1_pay5 X) (View.readCov_unit_zero M5.view off2 _ _)

set_option maxHeartbeats 400000 in
/-- The last point adds its block's column sums and writes the loss's inner sum. -/
theorem body_last (hA : ¬ firstBit i = 1#1) (hB : k1_cond2 i = 1#1) (f1 : Buf (Elt F) (M1.view.loc (c : Thread nD τ)))
    (X : Vec F S2000x1024 .f32) (hX : M1.view.read (Elt F) f1 = X)
    (f2 : Buf (Elt F) (M2.view.loc (c : Thread nD τ))) (G : Vec F S1x1024 .f32) (hG : M2.view.read (Elt F) f2 = G)
    (f3 : Buf (Elt F) (M3.view.loc (c : Thread nD τ)))
    (s r : Vec F S1x1024 .f32) (Q : PUnit → sProp 𝕄) :
    iprop(pt c M1 f1 ∗ pt c M2 f2 ∗ pt c M3 f3 ∗ rowAt c M4 s ∗ rowAt c M5 r
      ∗ (iprop(pt c M1 f1 ∗ pt c M2 f2
          ∗ (∃ f3', ⌜M3.view.read (Elt F) f3' = k1_pay6 (k1_pay4 X s) (k1_pay5 X r) G⌝ ∗ pt c M3 f3')
          ∗ rowAt c M4 (k1_pay4 X s) ∗ rowAt c M5 (k1_pay5 X r)) -∗ Q ⟨⟩))
      ⊢ wp frame (wpE (defs₀ (F := F)) 𝒱₀ (c : Thread nD τ) none) Set.univ (cc1__loss_kernel i M1 h1 M2 h2 M3 h3 M4 h4 M5 h5) Q := by
  simp only [cc1__loss_kernel_eq_skeleton]; unfold cc1__loss_kernel_skel
  iintro ⟨H1, H2, H3, ⟨%f4, %hs, Hs⟩, ⟨%f5, %hr, Hr⟩, Hk⟩
  unfold firstBit at hA
  sl_exec
  sl_step
  iapply Hk
  isplitl [H1]; · iexact H1
  isplitl [H2]; · iexact H2
  isplitl [H3]
  · iexists _; isplitr
    swap; · iexact H3
    ipureintro
    refine (read_writes_all M3.view f3 off3 _ _ []).trans ?_
    rw [readAt_row, hG]
    have e4 : body_last.sl.v23 c M1 M4 f1 f4 = k1_pay4 X s := by
      refine (View.readCov_unit_zero M4.view off2 _ _).trans ?_
      rw [readAt_block, readAt_row, hX, hs]
    have e5 : body_last.sl.v25 c M1 M5 f1 f5 = k1_pay5 X r := by
      refine (View.readCov_unit_zero M5.view off2 _ _).trans ?_
      rw [readAt_block, readAt_row, hX, hr]
    rw [e4, e5]
  isplitl [Hs]
  · iexists _; isplitr
    swap; · iexact Hs
    ipureintro
    refine (read_writes_all M4.view f4 off2 _ _ []).trans ?_
    rw [readAt_block, readAt_row, hX, hs]
  · iexists _; isplitr
    swap; · iexact Hr
    ipureintro
    refine (read_writes_all M5.view f5 off2 _ _ []).trans ?_
    rw [readAt_block, readAt_row, hX, hr]

end Body

/-! ### The call's proof data -/

/-- What the kernel computes of the grid place says which point it is. -/
theorem firstBit_iff : ∀ t : Fin grid1.N, firstBit (grid1.coords t) = 1#1 ↔ t.val = 0 := by decide
/-- The last point likewise. -/
theorem lastBit_iff : ∀ t : Fin grid1.N, k1_cond2 (grid1.coords t) = 1#1 ↔ t.val = 49 := by decide

section Data
variable (V : (c : Dev nD) → (b : Ref sig .tc) → Buf (Elt F) ((c : Thread nD τ).loc b)) (bnd : ℕ)

/-- Grid point `n`. -/
abbrev pointN (n : ℕ) : Fin cfg1.N := ⟨n % cfg1.N, Nat.mod_lt _ (by decide)⟩

/-- The block of scores the kernel reads at a point, and the row of target scores. -/
def blkX (c : Dev nD) (t : Fin cfg1.N) : Vec F S2000x1024 .f32 := ((cfg1.win 0).blk t).view.read (Elt F) (V c (Pipeline.arrRef spec1 0))
/-- The row of target scores, as read at a point. -/
def blkG (c : Dev nD) (t : Fin cfg1.N) : Vec F S1x1024 .f32 := ((cfg1.win 1).blk t).view.read (Elt F) (V c (Pipeline.arrRef spec1 1))

/-- The running sums of exponentials before point `n`. -/
def sumS (c : Dev nD) : ℕ → Vec F S1x1024 .f32
  | 0 => k1_pay2
  | n + 1 => k1_pay4 (blkX V c (pointN n)) (sumS c n)
/-- The running sums of scores before point `n`. -/
def sumR (c : Dev nD) : ℕ → Vec F S1x1024 .f32
  | 0 => k1_pay3
  | n + 1 => k1_pay5 (blkX V c (pointN n)) (sumR c n)

/-- The body's invariant before point `n`: the two scratch rows, at anything to begin with, then at the running sums. -/
def PhiN (c : Dev nD) : ℕ → sProp 𝕄
  | 0 => Pipeline.scopedRest (Ix := HIx 1) (Name := ℕ) (U := UU) (Lvl := ℕ) (Val := Elt F) spec1 c
  | n + 1 => iprop(rowAt c (Memref.whole cc1_scratch0) (sumS V c (n + 1)) ∗ rowAt c (Memref.whole cc1_scratch1) (sumR V c (n + 1)))

/-- The call's proof data from the buffers at `V`: the blocks as fetched, the result at the last point's payload. -/
def dat (c : Dev nD) : Pipeline.Dat τ (Elt F) (HIx 1) ℕ UU ℕ cfg1 c where
  A w := V c (Pipeline.arrRef spec1 w)
  after w t := match w with
    | ⟨0, _⟩ => blkX V c t
    | ⟨1, _⟩ => blkG V c t
    | ⟨2, _⟩ => k1_pay6 (sumS V c (t.val + 1)) (sumR V c (t.val + 1)) (blkG V c t)
  Φ t := PhiN V c t.val
  q _ := fullShare
  owed _ := 0
  recorded _ := {p | (K (F := F)).lev ((c : Thread nD τ), p.1) p.2 ≤ bnd}

/-- Before a point's body the scores' window holds their block, -/
theorem before0 (c : Dev nD) (t : Fin cfg1.N) (d) : (dat V bnd c).before 0 t d = blkX V c t :=
  (dat V bnd c).before_in_eq_fetched 0 rfl (fun _ => rfl) (fun _ _ _ => rfl) (fun _ => rfl) t d
/-- and the target scores' window their row. -/
theorem before1 (c : Dev nD) (t : Fin cfg1.N) (d) : (dat V bnd c).before 1 t d = blkG V c t :=
  (dat V bnd c).before_in_eq_fetched 1 rfl (fun _ => rfl) (fun _ _ _ => rfl) (fun _ => rfl) t d

omit [FloatOps F] [Named F] in
/-- Owning a whole memref at what it reads is holding its buffer. -/
theorem owns_open (c : Dev nD) {sp : Space} {S : Shape} {e : EltTy} (M : Memref sig .tc sp S e) (h : M.IsWhole) (X : S.Idx → Elt F e) :
    (owns (c : Thread nD τ) M fullShare X : sProp 𝕄) ⊢ iprop(∃ f, ⌜M.view.read (Elt F) f = X⌝ ∗ pt c M f) := by
  unfold owns; rw [h.set_eq_univ]

omit [FloatOps F] [Named F] in
/-- Holding a whole memref's buffer is owning the memref at what it reads. -/
theorem owns_close (c : Dev nD) {sp : Space} {S : Shape} {e : EltTy} (M : Memref sig .tc sp S e) (h : M.IsWhole) (X : S.Idx → Elt F e) :
    iprop(∃ f, ⌜M.view.read (Elt F) f = X⌝ ∗ pt c M f) ⊢ (owns (c : Thread nD τ) M fullShare X : sProp 𝕄) := by
  unfold owns; rw [h.set_eq_univ]

/-- At every grid point the body turns the blocks as fetched and the rows at the sums so far into the next point's. -/
theorem body_obligation (c : Dev nD) : Pipeline.BodyObligation (dat V bnd c) (defs₀ (F := F)) 𝒱₀ (none : HIx 1) Set.univ := fun t => by
  have hpt : pointN t.val = t := Fin.ext (Nat.mod_eq_of_lt t.isLt)
  show iprop((dat V bnd c).Φ t.castSucc ∗ (dat V bnd c).owesAt none t.castSucc
        ∗ bigSep Finset.univ fun w : Fin cfg1.W => iprop(∃ d, owns (c : Thread nD τ) ((cfg1.win w).stage (cfg1.slots t w)) fullShare ((dat V bnd c).before w t d)))
      ⊢ wp frame (wpE (defs₀ (F := F)) 𝒱₀ (c : Thread nD τ) none) Set.univ (bodyAt1 t) fun _ =>
          iprop((dat V bnd c).Φ t.succ ∗ (dat V bnd c).owesAt none t.succ
            ∗ bigSep Finset.univ fun w : Fin cfg1.W => (dat V bnd c).leavesExact w t)
  rw [bigSep_W1, bigSep_W1]
  simp only [before0, before1]
  rw [show (dat V bnd c).Φ t.castSucc = PhiN V c t.val from rfl, show (dat V bnd c).Φ t.succ = PhiN V c (t.val + 1) from rfl,
    show (dat V bnd c).owesAt none t.succ = (dat V bnd c).owesAt none t.castSucc from rfl,
    show (dat V bnd c).leavesExact 0 t = owns (c : Thread nD τ) ((cfg1.win 0).stage (cfg1.slots t 0)) fullShare (blkX V c t) from rfl,
    show (dat V bnd c).leavesExact 1 t = owns (c : Thread nD τ) ((cfg1.win 1).stage (cfg1.slots t 1)) fullShare (blkG V c t) from rfl]
  have w0 := hstage1_0 ((cfg1.slots t 0).cast nbuf1_0)
  have w1 := hstage1_1 ((cfg1.slots t 1).cast nbuf1_1)
  have w2 := hstage1_2 ((cfg1.slots t 2).cast nbuf1_2)
  by_cases hz : t.val = 0
  · have hA : firstBit (grid1.coords t) = 1#1 := (firstBit_iff t).2 hz
    have hB : ¬ k1_cond2 (grid1.coords t) = 1#1 := fun h => by have := (lastBit_iff t).1 h; omega
    have hidle : cfg1.idle 2 (grid1.coords t) = true := by
      show (!(k1_cond2 (grid1.coords t) == 1#1)) = true
      simpa using hB
    have hfl : (cfg1.win 2).flush t = false := by
      rw [Bool.eq_false_iff]; intro h; have := (flush1_2 t).1 h; omega
    rw [(dat V bnd c).leavesExact_idle 2 t hidle hfl]
    have hS : sumS V c (t.val + 1) = k1_pay4 (blkX V c t) k1_pay2 := by rw [hz] at hpt ⊢; rw [← hpt]; rfl
    have hR : sumR V c (t.val + 1) = k1_pay5 (blkX V c t) k1_pay3 := by rw [hz] at hpt ⊢; rw [← hpt]; rfl
    rw [show PhiN V c (t.val + 1) = iprop(rowAt c (Memref.whole cc1_scratch0) (sumS V c (t.val + 1)) ∗ rowAt c (Memref.whole cc1_scratch1) (sumR V c (t.val + 1))) from rfl,
      hS, hR, hz, show PhiN V c 0 = Pipeline.scopedRest (Ix := HIx 1) (Name := ℕ) (U := UU) (Lvl := ℕ) (Val := Elt F) spec1 c from rfl, scopedRest1_eq]
    iintro ⟨⟨⟨%f4, H4⟩, ⟨%f5, H5⟩⟩, HO, ⟨%d0, H0⟩, ⟨%d1, H1⟩, ⟨%d2, H2⟩⟩
    ihave H0 := (owns_open c ((cfg1.win 0).stage (cfg1.slots t 0)) w0 (blkX V c t)) $$ H0
    ihave H1 := (owns_open c ((cfg1.win 1).stage (cfg1.slots t 1)) w1 (blkG V c t)) $$ H1
    icases H0 with ⟨%f1, %hX, H0⟩
    icases H1 with ⟨%f2, %hG, H1⟩
    iapply (body_first (F := F) c (grid1.coords t) _ _ _ _ _ _ _ _ _ _ hA hB f1 (blkX V c t) hX f4 f5) $$ [H0 H4 H5 HO H1 H2]
    isplitl [H0]; · iexact H0
    isplitl [H4]; · iexact H4
    isplitl [H5]; · iexact H5
    iintro ⟨H0, H4, H5⟩
    isplitl [H4 H5]; · isplitl [H4]; · iexact H4
                       iexact H5
    isplitl [HO]; · iexact HO
    isplitl [H0]; · iapply (owns_close c ((cfg1.win 0).stage (cfg1.slots t 0)) w0 (blkX V c t)); iexists f1; isplitr; · ipureintro; exact hX
                    iexact H0
    isplitl [H1]; · iapply (owns_close c ((cfg1.win 1).stage (cfg1.slots t 1)) w1 (blkG V c t)); iexists f2; isplitr; · ipureintro; exact hG
                    iexact H1
    iexists d2; iexact H2
  · obtain ⟨n, hn⟩ : ∃ n, t.val = n + 1 := ⟨t.val - 1, by omega⟩
    have hA : ¬ firstBit (grid1.coords t) = 1#1 := fun h => hz ((firstBit_iff t).1 h)
    have hS : sumS V c (t.val + 1) = k1_pay4 (blkX V c t) (sumS V c t.val) := by
      exact congrArg (fun u => k1_pay4 (blkX V c u) (sumS V c t.val)) hpt
    have hR : sumR V c (t.val + 1) = k1_pay5 (blkX V c t) (sumR V c t.val) := by
      exact congrArg (fun u => k1_pay5 (blkX V c u) (sumR V c t.val)) hpt
    have hP : PhiN V c t.val = iprop(rowAt c (Memref.whole cc1_scratch0) (sumS V c t.val) ∗ rowAt c (Memref.whole cc1_scratch1) (sumR V c t.val)) := by
      rw [hn]; rfl
    rw [show PhiN V c (t.val + 1) = iprop(rowAt c (Memref.whole cc1_scratch0) (sumS V c (t.val + 1)) ∗ rowAt c (Memref.whole cc1_scratch1) (sumR V c (t.val + 1))) from rfl,
      hS, hR, hP]
    by_cases hl : t.val = 49
    · have hB : k1_cond2 (grid1.coords t) = 1#1 := (lastBit_iff t).2 hl
      have hidle : cfg1.idle 2 (grid1.coords t) = false := by
        show (!(k1_cond2 (grid1.coords t) == 1#1)) = false
        simp [hB]
      rw [show (dat V bnd c).leavesExact 2 t = owns (c : Thread nD τ) ((cfg1.win 2).stage (cfg1.slots t 2)) fullShare (k1_pay6 (sumS V c (t.val + 1)) (sumR V c (t.val + 1)) (blkG V c t)) by
        unfold Pipeline.Dat.leavesExact; rw [hidle]; rfl, hS, hR]
      iintro ⟨⟨H4, H5⟩, HO, ⟨%d0, H0⟩, ⟨%d1, H1⟩, ⟨%d2, H2⟩⟩
      ihave H0 := (owns_open c ((cfg1.win 0).stage (cfg1.slots t 0)) w0 (blkX V c t)) $$ H0
      ihave H1 := (owns_open c ((cfg1.win 1).stage (cfg1.slots t 1)) w1 (blkG V c t)) $$ H1
      icases H0 with ⟨%f1, %hX, H0⟩
      icases H1 with ⟨%f2, %hG, H1⟩
      ihave H2 := (owns_open c ((cfg1.win 2).stage (cfg1.slots t 2)) w2 ((dat V bnd c).before 2 t d2)) $$ H2
      icases H2 with ⟨%f3, -, H2⟩
      iapply (body_last (F := F) c (grid1.coords t) _ _ _ _ _ _ _ _ _ _ hA hB f1 (blkX V c t) hX f2 (blkG V c t) hG f3 (sumS V c t.val) (sumR V c t.val)) $$ [H0 H4 H5 HO H1 H2]
      isplitl [H0]; · iexact H0
      isplitl [H1]; · iexact H1
      isplitl [H2]; · iexact H2
      isplitl [H4]; · iexact H4
      isplitl [H5]; · iexact H5
      iintro ⟨H0, H1, H2, H4, H5⟩
      isplitl [H4 H5]; · isplitl [H4]; · iexact H4
                         iexact H5
      isplitl [HO]; · iexact HO
      isplitl [H0]; · iapply (owns_close c ((cfg1.win 0).stage (cfg1.slots t 0)) w0 (blkX V c t)); iexists f1; isplitr; · ipureintro; exact hX
                      iexact H0
      isplitl [H1]; · iapply (owns_close c ((cfg1.win 1).stage (cfg1.slots t 1)) w1 (blkG V c t)); iexists f2; isplitr; · ipureintro; exact hG
                      iexact H1
      iapply (owns_close c ((cfg1.win 2).stage (cfg1.slots t 2)) w2); iexact H2
    · have hB : ¬ k1_cond2 (grid1.coords t) = 1#1 := fun h => hl ((lastBit_iff t).1 h)
      have hidle : cfg1.idle 2 (grid1.coords t) = true := by
        show (!(k1_cond2 (grid1.coords t) == 1#1)) = true
        simpa using hB
      have hfl : (cfg1.win 2).flush t = false := by
        have := t.isLt.trans_eq (show cfg1.N = 50 from N_1)
        rw [Bool.eq_false_iff]; intro h; have := (flush1_2 t).1 h; omega
      rw [(dat V bnd c).leavesExact_idle 2 t hidle hfl]
      iintro ⟨⟨H4, H5⟩, HO, ⟨%d0, H0⟩, ⟨%d1, H1⟩, ⟨%d2, H2⟩⟩
      ihave H0 := (owns_open c ((cfg1.win 0).stage (cfg1.slots t 0)) w0 (blkX V c t)) $$ H0
      ihave H1 := (owns_open c ((cfg1.win 1).stage (cfg1.slots t 1)) w1 (blkG V c t)) $$ H1
      icases H0 with ⟨%f1, %hX, H0⟩
      icases H1 with ⟨%f2, %hG, H1⟩
      iapply (body_mid (F := F) c (grid1.coords t) _ _ _ _ _ _ _ _ _ _ hA hB f1 (blkX V c t) hX (sumS V c t.val) (sumR V c t.val)) $$ [H0 H4 H5 HO H1 H2]
      isplitl [H0]; · iexact H0
      isplitl [H4]; · iexact H4
      isplitl [H5]; · iexact H5
      iintro ⟨H0, H4, H5⟩
      isplitl [H4 H5]; · isplitl [H4]; · iexact H4
                         iexact H5
      isplitl [HO]; · iexact HO
      isplitl [H0]; · iapply (owns_close c ((cfg1.win 0).stage (cfg1.slots t 0)) w0 (blkX V c t)); iexists f1; isplitr; · ipureintro; exact hX
                      iexact H0
      isplitl [H1]; · iapply (owns_close c ((cfg1.win 1).stage (cfg1.slots t 1)) w1 (blkG V c t)); iexists f2; isplitr; · ipureintro; exact hG
                      iexact H1
      iexists d2; iexact H2

end Data

end Cert.Proof.Run
end
-- ==== Proof.Region.lean ====
/-
  The TensorCore's call as a region of the host's program: entered with every host buffer at some contents, left with
  the one result at the loss's inner sum and every other buffer as it was.
-/
module

public import proofs.«01_k».proof.Proof.Loss

@[expose] public section

noncomputable section

namespace Cert.Proof.Run

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The pipelined call's sizes are admissible. -/
abbrev adm : (p : Fin 1) → (pcfgs (F := F) p).Adm := fun p => (cfgs p).toPCfg_adm

variable (V : (c : Dev nD) → (b : Ref sig .tc) → Buf (Elt F) ((c : Thread nD τ).loc b)) (bnd : ℕ)

/-- The proof data of every pipelined call of the program, there being one. -/
def pdats : (p : Fin 1) → (c : Dev nD) → Pipeline.Dat τ (Elt F) (HIx 1) ℕ UU ℕ (Pipeline.pin (pcfgs (F := F)) adm p) c
  | ⟨0, _⟩ => fun c => dat V bnd c

/-- The last grid point. -/
abbrev lastPt : Fin cfg1.N := ⟨49, by decide⟩

/-- What the call leaves in its result: the inner sum, from the two rows after the last block and the target row. -/
def lossBuf (c : Dev nD) : Vec F S1x1x1 .f32 := k1_pay6 (sumS V c 50) (sumR V c 50) (blkG V c lastPt)

/-- At the last point the result's window is the whole result. -/
theorem whole2 : (cfg1.win 2).WholeAt lastPt := by decide +kernel

/-- The result array after the call. -/
theorem arrAt2 (c : Dev nD) : (dat V bnd c).arrAt 2 cfg1.N = lossBuf V c :=
  (dat V bnd c).arrAt_eq_of_after_last 2 lastPt whole2 (lossBuf V c) fun j => by
    rfl

variable (Vp : (c : Dev nD) → (b : Ref sig .tc) → Buf (Elt F) ((c : Thread nD τ).loc b))

set_option backward.isDefEq.respectTransparency.types false in
/-- The call as a region, from the host buffers at `V` to the same at `Vp`. -/
def reg (hVp_out : ∀ c, Vp c main_v4 = lossBuf V c) (hVp_ne : ∀ c (b : Ref sig .tc), b ≠ main_v4 → Vp c b = V c b) :
    Pipeline.RegionSeg (pcfgs (F := F)) adm (pdats V bnd) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V bnd c).loose
  hwaits := Pipeline.hwaits_of_owed_zero _ _ _ _ (K (F := F)).L (K (F := F)).lev 0 fun _ _ => rfl
  pre c := iprop(unscopedBufs c (V c) ∗ ∃ W, ⌜(K (F := F)).WBelow (c : Thread nD τ) W bnd⌝ ∗ owes (c : Thread nD τ) (0 : CellTallies nD τ sig (HIx 1)) W)
  post c := iprop(unscopedBufs c (Vp c) ∗ ∃ W, ⌜(K (F := F)).WBelow (c : Thread nD τ) W bnd⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V bnd) launch1.win launch1.arr_whole c
      ((pdats V bnd 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats V bnd 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V bnd 0 c).Φ (Fin.last _) = iprop(rowAt c (Memref.whole cc1_scratch0) (sumS V c 50) ∗ rowAt c (Memref.whole cc1_scratch1) (sumR V c 50)) from rfl]
    refine BIBase.Entails.trans ?_ (show iprop(emp ∗ emp ∗ Pipeline.scopedRest (Ix := HIx 1) (Name := ℕ) (U := UU) (Lvl := ℕ) (Val := Elt F) spec1 c) ⊢ _ from .rfl)
    rw [scopedRest1_eq]
    iintro ⟨⟨%f4, -, H4⟩, ⟨%f5, -, H5⟩⟩
    isplitr; · iempintro
    isplitr; · iempintro
    isplitl [H4]
    · iexists f4; iexact H4
    · iexists f5; iexact H5
  hexit c := by
    have hjoin := Pipeline.unscopedBufs_of_arrays (p := 0) (pcfgs (F := F)) adm (Ix := HIx 1) (Name := ℕ) (U := UU) (Lvl := ℕ) launch1.win launch1.arr_whole c
      (pdats V bnd) ((pdats V bnd 0 c).share_full fun _ => rfl) (V c) (Vp c) ((pdats V bnd 0 c).arrAt · cfg1.N)
      (fun w => by
        fin_cases w
        · exact ((pdats V bnd 0 c).arrAt_in 0 rfl _).trans (hVp_ne c main_v0 (by decide)).symm
        · exact ((pdats V bnd 0 c).arrAt_in 1 rfl _).trans (hVp_ne c main_v3 (by decide)).symm
        · exact (arrAt2 V bnd c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Cert.Proof.Run
end
-- ==== Proof.Launch.lean ====
/-
  The program run whole: the host's lines around the two kernels, each kernel taken by its own rule, and what every
  run ends at — the arguments as they were, the result at the host's last value, every semaphore at zero.
-/
module

public import proofs.«01_k».proof.Proof.Gather
public import proofs.«01_k».proof.Proof.Region

@[expose] public section

noncomputable section

namespace Cert.Proof.Run

open Cert.KernelIdeal Cert.KernelIdeal.Gen

open Idealize.ShloMosaic
open Idealize.ShloMosaic.TcCoe
open Idealize.ShloMosaic.SparseCore.Cfg (HIx Pay)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-! ## The host's lines and the buffers' contents after each -/

/-- Before the SparseCore: the scores turned class-first, and the same as one flat list. -/
def ops1 : List (HloOp τ sig (Elt F)) :=
  [StableHlo.unary main_arg0 main_v0 ((transpose S100000x1024 [1, 0] · transposes_S1024x100000_S100000x1024_1_0) : (⟨S1024x100000, .f32⟩ : BufTy).Contents (Elt F) → (⟨S100000x1024, .f32⟩ : BufTy).Contents (Elt F)),
   StableHlo.reshape main_v0 main_v1 (rfl : (.f32 : EltTy) = .f32) shapeCasts_S100000x1024_S102400000]

/-- Between the two kernels: the gathered scores as one row. -/
def ops2 : List (HloOp τ sig (Elt F)) :=
  [StableHlo.reshape main_v2 main_v3 (rfl : (.f32 : EltTy) = .f32) shapeCasts_S1024_S1x1024]

/-- After the kernels: the constant of the smoothed targets, and the mean taken off it. -/
def ops3 : List (HloOp τ sig (Elt F)) :=
  [StableHlo.nullary main_cst (constant S_ .f32 0x3F800000#32),
   StableHlo.nullary main_cst_0 (constant S_ .f32 0x41200000#32),
   StableHlo.binary main_cst main_cst_0 main_v5 (Host.divf : (⟨S_, .f32⟩ : BufTy).Contents (Elt F) → (⟨S_, .f32⟩ : BufTy).Contents (Elt F) → (⟨S_, .f32⟩ : BufTy).Contents (Elt F)),
   StableHlo.nullary main_cst_1 (constant S_ .f32 0x3F800000#32),
   StableHlo.binary main_cst_1 main_v5 main_v6 (subf : (⟨S_, .f32⟩ : BufTy).Contents (Elt F) → (⟨S_, .f32⟩ : BufTy).Contents (Elt F) → (⟨S_, .f32⟩ : BufTy).Contents (Elt F)),
   StableHlo.nullary main_cst_2 (constant S_ .f32 0x47C34F80#32),
   StableHlo.binary main_v5 main_cst_2 main_v7 (Host.divf : (⟨S_, .f32⟩ : BufTy).Contents (Elt F) → (⟨S_, .f32⟩ : BufTy).Contents (Elt F) → (⟨S_, .f32⟩ : BufTy).Contents (Elt F)),
   StableHlo.nullary main_cst_3 (constant S_ .f32 0x47C34F80#32),
   StableHlo.binary main_cst_3 main_v7 main_v8 (mulf : (⟨S_, .f32⟩ : BufTy).Contents (Elt F) → (⟨S_, .f32⟩ : BufTy).Contents (Elt F) → (⟨S_, .f32⟩ : BufTy).Contents (Elt F)),
   StableHlo.unary main_v7 main_v9 (Host.log : (⟨S_, .f32⟩ : BufTy).Contents (Elt F) → (⟨S_, .f32⟩ : BufTy).Contents (Elt F)),
   StableHlo.binary main_v8 main_v9 main_v10 (mulf : (⟨S_, .f32⟩ : BufTy).Contents (Elt F) → (⟨S_, .f32⟩ : BufTy).Contents (Elt F) → (⟨S_, .f32⟩ : BufTy).Contents (Elt F)),
   StableHlo.unary main_v6 main_v11 (Host.log : (⟨S_, .f32⟩ : BufTy).Contents (Elt F) → (⟨S_, .f32⟩ : BufTy).Contents (Elt F)),
   StableHlo.binary main_v6 main_v11 main_v12 (mulf : (⟨S_, .f32⟩ : BufTy).Contents (Elt F) → (⟨S_, .f32⟩ : BufTy).Contents (Elt F) → (⟨S_, .f32⟩ : BufTy).Contents (Elt F)),
   StableHlo.binary main_v10 main_v12 main_v13 (addf : (⟨S_, .f32⟩ : BufTy).Contents (Elt F) → (⟨S_, .f32⟩ : BufTy).Contents (Elt F) → (⟨S_, .f32⟩ : BufTy).Contents (Elt F)),
   StableHlo.reshape main_v4 main_v14 (rfl : (.f32 : EltTy) = .f32) shapeCasts_S1x1x1_S_,
   StableHlo.nullary main_cst_4 (constant S_ .f32 0x44800000#32),
   StableHlo.binary main_v14 main_cst_4 main_v15 (Host.divf : (⟨S_, .f32⟩ : BufTy).Contents (Elt F) → (⟨S_, .f32⟩ : BufTy).Contents (Elt F) → (⟨S_, .f32⟩ : BufTy).Contents (Elt F)),
   StableHlo.binary main_v13 main_v15 main_v16 (subf : (⟨S_, .f32⟩ : BufTy).Contents (Elt F) → (⟨S_, .f32⟩ : BufTy).Contents (Elt F) → (⟨S_, .f32⟩ : BufTy).Contents (Elt F))]

/-- The program: its lines and its two calls in order. -/
theorem main_eq (d : Dev nD) : main (F := F) d = (StableHlo.seq ops1 >>= fun _ => sc.run d 0 >>= fun _ => StableHlo.seq ops2 >>= fun _ =>
    Prog.lift (.customCall (SparseCore.inner (Pipeline.entry 0)) ()) >>= fun _ => StableHlo.seq ops3 >>= fun _ => pure ⟨⟩) := by
  unfold main ops1 ops2 ops3
  simp only [StableHlo.seq, bind_assoc, pure_bind]

variable (m : (ℓ : Loc nD τ sig) → Buf (Elt F) ℓ) (ρ : Dev nD → PrngReg)

/-- The contents of one device's buffers. -/
abbrev VAL (F : FTy → Type) : Type := Valuation τ sig (Elt F)

/-- The buffers at the launch. -/
def V0 (d : Dev nD) : VAL F := fun b => m (d, b)
/-- Before the SparseCore's call. -/
def V1 (d : Dev nD) : VAL F := StableHlo.after ops1 (V0 m d)
/-- After it: the gathered scores. -/
def V2 (d : Dev nD) : VAL F := Function.update (V1 m d) (Proc.devRef .tc main_v2) (gath m d)
/-- Before the TensorCore's call. -/
def V3 (d : Dev nD) : VAL F := StableHlo.after ops2 (V2 m d)
/-- The same by the core's references, as the call's region is stated. -/
def V3r (c : Dev nD) (b : Ref sig .tc) : Buf (Elt F) ((c : Thread nD τ).loc b) := V3 m c (Proc.devRef .tc b)
/-- After it: the loss's inner sum. -/
def V4 (d : Dev nD) : VAL F := Function.update (V3 m d) (Proc.devRef .tc main_v4) (lossBuf (V3r m) d)
/-- The same by the core's references. -/
def V4r (c : Dev nD) (b : Ref sig .tc) : Buf (Elt F) ((c : Thread nD τ).loc b) := V4 m c (Proc.devRef .tc b)
/-- At the end. -/
def V5 (d : Dev nD) : VAL F := StableHlo.after ops3 (V4 m d)

/-- Before the SparseCore's call the flat list holds the scores, class by class; -/
theorem V1_flat (d : Dev nD) : V1 m d (Proc.devRef .tc main_v1) = flat m d := by
  unfold V1 ops1; after_results; rfl

/-- the targets are as they were, -/
theorem V1_arg1 (d : Dev nD) : V1 m d (Proc.devRef .tc main_arg1) = m (tLoc d) := by
  unfold V1 ops1; after_results; rfl

/-- and so is the result's buffer. -/
theorem V1_v2 (d : Dev nD) : V1 m d (Proc.devRef .tc main_v2) = m (gLoc d) := by
  unfold V1 ops1; after_results; rfl

/-- The host's buffers. -/
def hostRefs : Finset (DevRef τ sig) := (StableHlo.tcRefs τ sig).filter fun b => ¬ b.isScoped

omit [FloatOps F] [Named F] in
/-- A core's unscoped buffers are the host's, held whole. -/
theorem unscoped_held (c : Dev nD) (W : VAL F) :
    (unscopedBufs c (fun b => W (Proc.devRef .tc b)) : sProp 𝕄) = StableHlo.held (c : Thread nD τ) hostRefs W := by
  unfold unscopedBufs StableHlo.held hostRefs StableHlo.tcRefs
  rw [Finset.filter_map, bigSep_map]
  rfl

/-! ## The SparseCore call's hand -/

/-- The three buffers the SparseCore's call is handed. -/
def scRefs : Finset (DevRef τ sig) := {Proc.devRef .tc main_v1, Proc.devRef .tc main_arg1, Proc.devRef .tc main_v2}
/-- They are the host's. -/
theorem scRefs_sub : scRefs ⊆ hostRefs := by decide

omit [FloatOps F] [Named F] in
/-- Held, they are three buffers held whole. -/
theorem held_scRefs (d : Dev nD) (W : VAL F) :
    (StableHlo.held (d : Thread nD τ) scRefs W : sProp 𝕄)
      = iprop((fLoc d ↦{fullShare} W (Proc.devRef .tc main_v1)) ∗ (tLoc d ↦{fullShare} W (Proc.devRef .tc main_arg1)) ∗ gLoc d ↦{fullShare} W (Proc.devRef .tc main_v2)) := by
  unfold StableHlo.held scRefs
  rw [SparseCore.bigSep_insert' (by decide), SparseCore.bigSep_insert' (by decide), bigSep_singleton]

/-- The pairs of a SparseCore and a task of it are the thirty-two parts. -/
def taskEquiv : Fin 2 × Fin 16 ≃ Fin 32 where
  toFun p := task p.1 p.2
  invFun w := (⟨w.val % 2, Nat.mod_lt _ (by decide)⟩, ⟨w.val / 2, by omega⟩)
  left_inv := by rintro ⟨⟨c, hc⟩, ⟨i, hi⟩⟩; simp only [task, Prod.mk.injEq, Fin.mk.injEq]; omega
  right_inv := by rintro ⟨w, hw⟩; simp only [task, Fin.mk.injEq]; omega

omit [FloatOps F] [Named F] in
/-- Something for each SparseCore and task is something for each part. -/
theorem regroup (Φ : Fin 32 → sProp 𝕄) :
    (bigSep Finset.univ fun c : Fin ((K (F := F)).nCore 0) => bigSep Finset.univ fun i : Fin ((K (F := F)).nSub 0) => Φ (task (Fin.cast nCore_eq c) (Fin.cast nSub_eq i)))
      = bigSep Finset.univ Φ := by
  rw [bigSep_univ_equiv taskEquiv, bigSep_univ_prod]; rfl

omit [FloatOps F] [Named F] in
/-- A list of 1024 held whole is its thirty-two parts held. -/
theorem tParts (d : Dev nD) (f : Buf (Elt F) (tLoc d)) :
    (tLoc d ↦{fullShare} f : sProp 𝕄) = bigSep Finset.univ fun w : Fin 32 => tLoc d ↦[partSet w]{fullShare} f := by
  rw [← pointsTo_biUnion Finset.univ (ℓ := tLoc d) partSet (fun _ _ _ _ h => Rect.part_disjoint parts h)]
  exact congrArg (fun I => (tLoc d ↦[I]{fullShare} f : sProp 𝕄)) (Rect.biUnion_part parts).symm
omit [FloatOps F] [Named F] in
/-- The same of the result. -/
theorem gParts (d : Dev nD) (f : Buf (Elt F) (gLoc d)) :
    (gLoc d ↦{fullShare} f : sProp 𝕄) = bigSep Finset.univ fun w : Fin 32 => gLoc d ↦[partSet w]{fullShare} f := by
  rw [← pointsTo_biUnion Finset.univ (ℓ := gLoc d) partSet (fun _ _ _ _ h => Rect.part_disjoint parts h)]
  exact congrArg (fun I => (gLoc d ↦[I]{fullShare} f : sProp 𝕄)) (Rect.biUnion_part parts).symm

omit [FloatOps F] [Named F] in
/-- A buffer held whole is thirty-two shares of it. -/
theorem shares32 {ℓ : Loc nD τ sig} (f : Buf (Elt F) ℓ) : (ℓ ↦{fullShare} f : sProp 𝕄) = bigSep Finset.univ fun w : Fin 32 => ℓ ↦{share w} f :=
  pointsTo_leaves Finset.univ f 5 fullShare

omit [FloatOps F] [Named F] in
/-- The first two of three may be exchanged. -/
theorem swap3 (A B C : sProp 𝕄) : iprop(A ∗ B ∗ C) = iprop(B ∗ A ∗ C) := by
  have h : ∀ A B C : sProp 𝕄, iprop(A ∗ B ∗ C) ⊢ iprop(B ∗ A ∗ C) := fun A B C => by
    iintro ⟨HA, HB, HC⟩
    isplitl [HB]; · iexact HB
    isplitl [HA] <;> iassumption
  exact BI.Entails.antisymm (h A B C) (h B A C)

omit [FloatOps F] [Named F] in
/-- The call's three buffers, whole, are the thirty-two tasks' hands. -/
theorem hands (d : Dev nD) (g : Buf (Elt F) (gLoc d)) :
    (iprop((fLoc d ↦{fullShare} flat m d) ∗ (tLoc d ↦{fullShare} m (tLoc d)) ∗ gLoc d ↦{fullShare} g) : sProp 𝕄)
      = bigSep Finset.univ fun w : Fin 32 => iprop(tPart m d w ∗ fShare m d w ∗ gPart d w g) := by
  rw [bigSep_sep', bigSep_sep', ← tParts, ← gParts,
    show bigSep Finset.univ (fShare m d) = (fLoc d ↦{fullShare} flat m d : sProp 𝕄) from (shares32 (ℓ := fLoc d) (flat m d)).symm]
  exact swap3 _ _ _

/-- What the SparseCores are handed is the three buffers whole, -/
theorem st_eq (d : Dev nD) : (bigSep Finset.univ fun c : Fin ((K (F := F)).nCore 0) => (P m).st 0 d c)
    = iprop((fLoc d ↦{fullShare} flat m d) ∗ (tLoc d ↦{fullShare} m (tLoc d)) ∗ gLoc d ↦{fullShare} m (gLoc d)) := by
  rw [hands]; exact regroup (fun w => taskGo m d w)
/-- and what they bring back is the same, the result now the gathered scores. -/
theorem dn_eq (d : Dev nD) : (bigSep Finset.univ fun c : Fin ((K (F := F)).nCore 0) => (P m).dn 0 d c)
    = iprop((fLoc d ↦{fullShare} flat m d) ∗ (tLoc d ↦{fullShare} m (tLoc d)) ∗ gLoc d ↦{fullShare} gath m d) := by
  rw [hands]; exact regroup (fun w => taskDone m d w)

/-- What the host holds beside the call's buffers is not touched by it. -/
theorem held_rest (d : Dev nD) : (StableHlo.held (d : Thread nD τ) (hostRefs \ scRefs) (V1 m d) : sProp 𝕄) = StableHlo.held (d : Thread nD τ) (hostRefs \ scRefs) (V2 m d) :=
  StableHlo.held_congr _ fun b hb => by
    have hne : b ≠ Proc.devRef .tc main_v2 := fun h => (Finset.mem_sdiff.mp hb).2 (h ▸ by decide)
    exact (Function.update_of_ne hne _ _).symm

/-- The call's buffers before it and after it, as the host holds them. -/
theorem sc_in (d : Dev nD) : (StableHlo.held (d : Thread nD τ) scRefs (V1 m d) : sProp 𝕄) = bigSep Finset.univ fun c : Fin ((K (F := F)).nCore 0) => (P m).st 0 d c := by
  rw [held_scRefs, V1_flat, V1_arg1, V1_v2, st_eq]
/-- After the call. -/
theorem sc_out (d : Dev nD) : (bigSep Finset.univ fun c : Fin ((K (F := F)).nCore 0) => (P m).dn 0 d c) = (StableHlo.held (d : Thread nD τ) scRefs (V2 m d) : sProp 𝕄) := by
  have e1 : V2 m d (Proc.devRef .tc main_v1) = flat m d := (Function.update_of_ne (by decide) _ _).trans (V1_flat m d)
  have e2 : V2 m d (Proc.devRef .tc main_arg1) = m (tLoc d) := (Function.update_of_ne (by decide) _ _).trans (V1_arg1 m d)
  have e3 : V2 m d (Proc.devRef .tc main_v2) = gath m d := Function.update_self _ _ _
  rw [held_scRefs, e1, e2, e3, dn_eq]

/-! ## The launch element of the proof's ghost state -/

/-- The pipeline's records may be kept in an invariant. -/
instance EP_lands : (EP : Emb UP 𝕄).LandsIn (upEmb : UEmb _ 𝕄) := by unfold EP; infer_instance

/-- The pipelined calls as the launch's ghost state is keyed by them. -/
abbrev pins : (p : Fin 1) → Pipeline.Cfg sig Λ₀ := Pipeline.pin (pcfgs (F := F)) adm

/-- No two of its semaphores are the same. -/
theorem pins_inj : Function.Injective (Pipeline.cellOf (nD := nD) (τ := τ) (pins (F := F))) := cellOf_inj

/-- What the TensorCore's call takes of it on device `d`. -/
abbrev G (d : Dev nD) : sProp 𝕄 := iprop(Pipeline.cellsGhost (pins (F := F)) EP 0 d ∗ Pipeline.toksInit (pins (F := F)) EP 0 d)

/-- The launch's element: the handshakes' first round, and the pipeline's. -/
def u₀ : UU := (initOf (K (F := F)).hsCells (K (F := F)).hsToks, (initOf (Pipeline.cells (pins (F := F)) pins_inj) (Pipeline.launchToks (pins (F := F)) pins_inj), 1))

omit [FloatOps F] [Named F] in
/-- Nothing, many times, is nothing. -/
theorem emps {I : Type} (s : Finset I) : (bigSep s fun _ => iprop(emp)) = (iprop(emp) : sProp 𝕄) := bigSep_emp_const s

/-- The launch element makes the handshakes' records, the TensorCore call's, and no other. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (initOf (Pipeline.cells (pins (F := F)) pins_inj) (Pipeline.launchToks (pins (F := F)) pins_inj), (1 : Counters))) $$ Hu
  icases H with ⟨HH, HP⟩
  ihave HP := (own_pair_emb embR (initOf (Pipeline.cells (pins (F := F)) pins_inj) (Pipeline.launchToks (pins (F := F)) pins_inj)) (1 : Counters)) $$ HP
  icases HP with ⟨HP, -⟩
  imod (Pipeline.fund_ghost (pins (F := F)) EP pins_inj) $$ HP with ⟨Hc, Ht⟩
  imodintro
  isplitl [HH]; · iexact HH
  isplitl [Hc Ht]
  · rw [bigSep_sep']
    isplitl [Hc]
    · iapply (Entails.of_eq (show (bigSep Finset.univ fun c : Dev nD => bigSep Finset.univ fun p : Fin 1 => Pipeline.cellsGhost (pins (F := F)) EP p c)
        = (bigSep Finset.univ fun c : Dev nD => Pipeline.cellsGhost (pins (F := F)) EP 0 c : sProp 𝕄) from bigSep_congr fun _ _ => bigSep_univ_of_subsingleton (0 : Fin 1)))
      iexact Hc
    · iapply (Entails.of_eq (show (bigSep Finset.univ fun c : Dev nD => bigSep Finset.univ fun p : Fin 1 => Pipeline.toksInit (pins (F := F)) EP p c)
        = (bigSep Finset.univ fun c : Dev nD => Pipeline.toksInit (pins (F := F)) EP 0 c : sProp 𝕄) from bigSep_congr fun _ _ => bigSep_univ_of_subsingleton (0 : Fin 1)))
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The program on the TensorCore -/

omit [FloatOps F] [Named F] in
/-- A line on the core's buffers touches the host's only. -/
theorem sub_host {ops : List (HloOp τ sig (Elt F))} (h : ops.Forall fun op => op.bufs ⊆ StableHlo.tcRefs τ sig) : ∀ op ∈ ops, op.bufs ⊆ hostRefs :=
  fun op hop b hb => Finset.mem_filter.mpr ⟨(List.forall_iff_forall_mem.mp h) op hop hb, fun h' => Bool.false_ne_true ((op.no_scoped b hb).symm.trans h')⟩

/-- The first host lines touch the host's buffers only, -/
theorem ops1_sub : ∀ op ∈ ops1 (F := F), op.bufs ⊆ hostRefs := sub_host (by simp [ops1])
/-- and so do the second -/
theorem ops2_sub : ∀ op ∈ ops2 (F := F), op.bufs ⊆ hostRefs := sub_host (by simp [ops2])
/-- and the third. -/
theorem ops3_sub : ∀ op ∈ ops3 (F := F), op.bufs ⊆ hostRefs := sub_host (by simp [ops3])
/-- The first host lines need no buffer that is new, -/
theorem ops1_fresh : ∀ op ∈ ops1 (F := F), op.fresh = ∅ := List.forall_iff_forall_mem.mp (StableHlo.forall_fresh_of_map rfl)
/-- nor do the second -/
theorem ops2_fresh : ∀ op ∈ ops2 (F := F), op.fresh = ∅ := List.forall_iff_forall_mem.mp (StableHlo.forall_fresh_of_map rfl)
/-- or the third. -/
theorem ops3_fresh : ∀ op ∈ ops3 (F := F), op.fresh = ∅ := List.forall_iff_forall_mem.mp (StableHlo.forall_fresh_of_map rfl)

/-- After the TensorCore's call its result's buffer holds the inner sum, -/
theorem V4r_out (c : Dev nD) : V4r m c main_v4 = lossBuf (V3r m) c := by
  unfold V4r V4; exact Function.update_self ..
/-- and every other buffer what it held. -/
theorem V4r_ne (c : Dev nD) (b : Ref sig .tc) (h : b ≠ main_v4) : V4r m c b = V3r m c b :=
  Function.update_of_ne (fun e => h (Proc.devRef_injective _ e)) ..

/-- The TensorCore's call in this program. -/
abbrev regM := reg (V3r m) 8 (V4r m) (V4r_out m) (V4r_ne m)

/-- The program's end on device `d`: the host's buffers at their last contents. -/
abbrev FIN (d : Dev nD) : sProp 𝕄 := StableHlo.held (d : Thread nD τ) hostRefs (V5 m d)

variable [∀ e, Nonempty (Elt F e)]

/-- The TensorCore's call at the head of the host's program. -/
theorem wp_loss (d : Dev nD) (Φ : PUnit → sProp 𝕄) :
    iprop((iprop(boundary (d : Thread nD τ) ∗ (regM m).post d) -∗ Φ ⟨⟩) ∗ boundary (d : Thread nD τ) ∗ (regM m).pre d ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Φ := by
  have h1 := (K (F := F)).wp_liftProg (N := 1) (Name := ℕ) (U := UU) (D (F := F)) 𝒱 (SparseCore.T d) Set.univ none
    (Prog.lift (.customCall (Pipeline.entry (0 : Fin 1)) ())) Φ
  refine BIBase.Entails.trans ?_ h1
  refine BIBase.Entails.trans ?_ (Pipeline.RegionSeg.wp (pcfgs (F := F)) adm (pdats (V3r m) 8) none pins_inj EP defs₀ 𝒱₀ (K (F := F)).L (K (F := F)).lev (regM m) d none
    (fun _ h => nomatch h) .ret Φ)
  iintro ⟨Hk, Hb, Hp, Hl, Hg, Ht⟩
  isplitl [Hk]
  · iintro H
    rw [wp_ret]
    imodintro
    iapply Hk; iexact H
  isplitl [Hb]; · iexact Hb
  isplitl [Hp]; · iexact Hp
  isplitl [Hl]; · iexact Hl
  isplitl [Hg] <;> iassumption

/-- The call is entered from the host's buffers and what the core owes, nothing, -/
theorem loss_pre (d : Dev nD) : iprop(StableHlo.held (d : Thread nD τ) hostRefs (V3 m d)
      ∗ ∃ W, ⌜(K (F := F)).WBelow (SparseCore.T d) W 8⌝ ∗ owes (SparseCore.T d) (0 : CellTallies nD τ sig (HIx 1)) W) ⊢ (regM m).pre d := by
  rw [← unscoped_held]; exact .rfl
/-- and left at the same with its result written. -/
theorem loss_post (d : Dev nD) : (regM m).post d ⊢ iprop(StableHlo.held (d : Thread nD τ) hostRefs (V4 m d)
      ∗ ∃ W, ⌜(K (F := F)).WBelow (SparseCore.T d) W 8⌝ ∗ owes (SparseCore.T d) (0 : CellTallies nD τ sig (HIx 1)) W) := by
  rw [← unscoped_held]; exact .rfl

/-- The program on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (d : Thread nD τ) hostRefs (V0 m d) from unscoped_held d (V0 m d), main_eq]
  iintro ⟨#Hctx, Hst, ⟨Hb, Hub, Hts, -⟩, Hg, Htk⟩
  iapply (StableHlo.wp_seq 𝒱 none Set.univ d hostRefs _ ops1 ops1_sub ops1_fresh (V0 m d)) $$ [Hb Hub]
  · isplitl [Hb] <;> iassumption
  iintro ⟨Hb, Hub⟩
  rw [wp_bind]
  ihave Hh := (Entails.of_eq (StableHlo.held_sub_split (d : Thread nD τ) scRefs_sub (StableHlo.after ops1 (V0 m d)))) $$ Hub
  icases Hh with ⟨H3, Hrest⟩
  ihave H3 := (Entails.of_eq (show (StableHlo.held (d : Thread nD τ) scRefs (StableHlo.after ops1 (V0 m d)) : sProp 𝕄) = _ from sc_in m d)) $$ H3
  iapply ((K (F := F)).wp_run (D (F := F)) 𝒱 (EH := EH) (P := P m) κ d 0) $$ [Hst H3 Hrest Hb Hts Hg Htk]
  isplitr; · iexact Hctx
  isplitl [Hst]; · iexact Hst
  isplitl [H3]; · iexact H3
  iintro ⟨Hst, Hdn⟩
  ihave Hdn := (Entails.of_eq (sc_out m d)) $$ Hdn
  ihave Hrest := (Entails.of_eq (show (StableHlo.held (d : Thread nD τ) (hostRefs \ scRefs) (StableHlo.after ops1 (V0 m d)) : sProp 𝕄) = _ from held_rest m d)) $$ Hrest
  ihave Hub := (Entails.of_eq (StableHlo.held_sub_split (d : Thread nD τ) scRefs_sub (V2 m d)).symm) $$ [Hdn Hrest]
  · isplitl [Hdn] <;> iassumption
  iapply (StableHlo.wp_seq 𝒱 none Set.univ d hostRefs _ ops2 ops2_sub ops2_fresh (V2 m d)) $$ [Hb Hub]
  · isplitl [Hb] <;> iassumption
  iintro ⟨Hb, Hub⟩
  rw [wp_bind]
  unfold SparseCore.Cfg.tcSt
  icases Hst with ⟨⟨%W, %hW, HO⟩, Hst⟩
  ihave HO := (Entails.of_eq (congrArg (fun O => (owes (SparseCore.T d) O W : sProp 𝕄))
    ((K (F := F)).Otc_end d (n := (0 : Fin 1).val + 1) le_rfl))) $$ HO
  ihave Hl := (SparseCore.Cfg.ctx_levAts κ) $$ Hctx
  iapply (wp_loss m d) $$ [Hst HO Hub Hb Hts Hg Htk]
  isplitl [Hst Hts]
  · iintro ⟨Hb, Hp⟩
    ihave Hp := (loss_post m d) $$ Hp
    icases Hp with ⟨Hub, ⟨%W', %hW', HO⟩⟩
    iapply (StableHlo.wp_seq 𝒱 none Set.univ d hostRefs _ ops3 ops3_sub ops3_fresh (V4 m d)) $$ [Hb Hub]
    · isplitl [Hb] <;> iassumption
    iintro ⟨Hb, Hub⟩
    rw [wp_pure]
    imodintro
    isplitl [Hst HO]
    · isplitl [HO]
      · iexists W'
        isplitr; · ipureintro; exact hW'
        rw [(K (F := F)).Otc_end d le_rfl]
        iexact HO
      iexact Hst
    isplitl [Hub]; · iexact Hub
    isplitl [Hb] <;> iassumption
  isplitl [Hb]; · iexact Hb
  isplitl [Hub HO]
  · iapply (loss_pre m d)
    isplitl [Hub]; · iexact Hub
    iexists W
    isplitr; · ipureintro; exact hW
    iexact HO
  isplitr; · iexact Hl
  isplitl [Hg] <;> iassumption

/-! ## Every run's end -/

/-- The host's buffers are, at the end, at their last contents. -/
def fq (d : Dev nD) (s' : Phys nD τ sig (Elt F)) : Prop := ∀ b ∈ hostRefs, s'.mem.mem (d, b) = V5 m d b

/-- Holding the host's buffers at the end says what the memory holds. -/
theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) hostRefs) $$ [HSI H]
  · isplitl [HSI]; · iexact HSI
    iexact H
  ipureintro; exact h

/-- Every run ends with the host's buffers at their last contents and every semaphore at zero. -/
def QC : PUnit × MemSt nD τ sig (Elt F) → Prop := fun r => (∀ (c : Dev nD), ∀ b ∈ hostRefs, r.2.mem (c, b) = V5 m c b) ∧ r.2.sem = fun _ => 0

/-- Every run of the program, where the targets are classes, ends as `QC` says. -/
theorem run_main (hpre : PreOK m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

/-- The last host lines, as one function of the inner sum. -/
def lastOf (t : FVec F S1x1x1 .f32) : FVec F S_ .f32 :=
  let c : FVec F S_ .f32 := Host.divf (constant S_ .f32 0x3F800000#32) (constant S_ .f32 0x41200000#32)
  let e : FVec F S_ .f32 := Host.divf c (constant S_ .f32 0x47C34F80#32)
  let k : FVec F S_ .f32 := subf (constant S_ .f32 0x3F800000#32) c
  subf (addf (mulf (mulf (constant S_ .f32 0x47C34F80#32) e) (Host.log e)) (mulf k (Host.log k)))
    (Host.divf (shapeCast S_ t shapeCasts_S1x1x1_S_) (constant S_ .f32 0x44800000#32))

/-- No line and no call writes the scores, -/
theorem V5_arg0 (d : Dev nD) : V5 m d (Proc.devRef .tc main_arg0) = m (xLoc d) := by
  have h3 : V5 m d (Proc.devRef .tc main_arg0) = V4 m d (Proc.devRef .tc main_arg0) := by
    unfold V5 ops3; after_results
  have h2 : V4 m d (Proc.devRef .tc main_arg0) = V3 m d (Proc.devRef .tc main_arg0) := Function.update_of_ne (by decide) _ _
  have h1 : V3 m d (Proc.devRef .tc main_arg0) = V2 m d (Proc.devRef .tc main_arg0) := by
    unfold V3 ops2; after_results
  have h0 : V2 m d (Proc.devRef .tc main_arg0) = V1 m d (Proc.devRef .tc main_arg0) := Function.update_of_ne (by decide) _ _
  rw [h3, h2, h1, h0]
  unfold V1 ops1; after_results; rfl

/-- nor the targets. -/
theorem V5_arg1 (d : Dev nD) : V5 m d (Proc.devRef .tc main_arg1) = m (tLoc d) := by
  have h3 : V5 m d (Proc.devRef .tc main_arg1) = V4 m d (Proc.devRef .tc main_arg1) := by
    unfold V5 ops3; after_results
  have h2 : V4 m d (Proc.devRef .tc main_arg1) = V3 m d (Proc.devRef .tc main_arg1) := Function.update_of_ne (by decide) _ _
  have h1 : V3 m d (Proc.devRef .tc main_arg1) = V2 m d (Proc.devRef .tc main_arg1) := by
    unfold V3 ops2; after_results
  have h0 : V2 m d (Proc.devRef .tc main_arg1) = V1 m d (Proc.devRef .tc main_arg1) := Function.update_of_ne (by decide) _ _
  rw [h3, h2, h1, h0, V1_arg1]

/-- The result is the last lines' function of the call's inner sum. -/
theorem V5_v16 (d : Dev nD) : V5 m d (Proc.devRef .tc main_v16) = lastOf (lossBuf (V3r m) d) := by
  have h4 : V4 m d (Proc.devRef .tc main_v4) = lossBuf (V3r m) d := Function.update_self ..
  unfold V5 ops3; after_results; rw [h4]; rfl

/-- The call finds the scores class-first, -/
theorem V3_v0 (d : Dev nD) : V3r m d main_v0 = turned m d := by
  have h1 : V3 m d (Proc.devRef .tc main_v0) = V2 m d (Proc.devRef .tc main_v0) := by
    unfold V3 ops2; after_results
  have h0 : V2 m d (Proc.devRef .tc main_v0) = V1 m d (Proc.devRef .tc main_v0) := Function.update_of_ne (by decide) _ _
  show V3 m d (Proc.devRef .tc main_v0) = _
  rw [h1, h0]
  unfold V1 ops1; after_results; rfl

/-- and the gathered scores as one row. -/
theorem V3_v3 (d : Dev nD) : V3r m d main_v3 = shapeCast S1x1024 (gath m d) shapeCasts_S1024_S1x1024 := by
  have h0 : V2 m d (Proc.devRef .tc main_v2) = gath m d := Function.update_self ..
  show V3 m d (Proc.devRef .tc main_v3) = _
  unfold V3 ops2; after_results; rw [h0]; rfl

/-- Every run leaves the arguments as they were and the result at the last lines' value, every semaphore at zero. -/
theorem run_value (hpre : PreOK m) : θ_run (Cert.KernelIdeal.defs (F := F)) (Cert.KernelIdeal.threads (F := F)) ⟨m, fun _ => 0, ρ⟩ fun r =>
    (∀ c : Dev nD, r.2.mem ((c : Thread nD τ).loc main_v16) = lastOf (lossBuf (V3r m) c) ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (run_main m ρ hpre).mono fun r h => ⟨fun c => ⟨(h.1 c (Proc.devRef .tc main_v16) (by decide)).trans (V5_v16 m c),
    (h.1 c (Proc.devRef .tc main_arg0) (by decide)).trans (V5_arg0 m c), (h.1 c (Proc.devRef .tc main_arg1) (by decide)).trans (V5_arg1 m c)⟩, h.2⟩

end Cert.Proof.Run
end
-- ==== Proof.Frames.lean ====
/-
  The kernel's frames: under the precondition every run, of the printed program and of its idealization, ends with the
  arguments as they were and every semaphore at zero.
-/
module

public import proofs.«01_k».proof.Proof.Pre
public import proofs.«01_k».proof.Proof.Same
public import proofs.«01_k».proof.Proof.Launch

@[expose] public section

noncomputable section

namespace Cert.Proof.Frames

open Idealize.ShloMosaic Idealize.SL.Sem

/-- The printed program's frame: it is the idealization's text, with the named constants read as they were printed. -/
theorem frame_Kernel : Cert.quiescent_Kernel := fun m g h => by
  have hp : Run.PreOK (F := Bits) m := fun d j => Pre.of_in_range (h d) j
  have r := Run.run_value (F := Bits) m g hp
  rw [← Same.defs_eq, ← Same.threads_eq] at r
  exact θ_run_mono r fun _ q => ⟨fun c => (q.1 c).2, q.2⟩

/-- The idealization's frame. -/
theorem frame_KernelIdeal : Cert.quiescent_KernelIdeal := fun m g h =>
  θ_run_mono (Run.run_value (F := Ideal) m g fun d j => Pre.of_in_range (h d) j) fun _ q => ⟨fun c => (q.1 c).2, q.2⟩

end Cert.Proof.Frames

end
-- ==== Proof.Ref.lean ====
/-
  The reference run: a straight line of host operations, its result as one function of the scores and the targets.
-/
module

public import proofs.«01_k».proof.Defs
public import proofs.«01_k».proof.Proof.Gen.ReferenceIdeal
public import Idealize.ShloMosaic.Lib.StableHlo.RunHlo
public import Idealize.ShloMosaic.Lib.Quiescent

@[expose] public section

noncomputable section

namespace Cert.Proof.Ref

open Cert.ReferenceIdeal Cert.ReferenceIdeal.Gen
open Idealize.ShloMosaic Idealize.SL.Sem

variable {F : FTy → Type} [FloatOps F]

/-- The reference's line up to the log-softmax's call. -/
def opsA : List (HloOp τ sig (Elt F)) :=
  [StableHlo.nullary main_cst (constant S_ .f32 0x3F800000#32),
   StableHlo.nullary main_cst_0 (constant S_ .f32 0x41200000#32),
   StableHlo.binary main_cst main_cst_0 main_v0 (Host.divf : (⟨S_, .f32⟩ : BufTy).Contents (Elt F) → (⟨S_, .f32⟩ : BufTy).Contents (Elt F) → (⟨S_, .f32⟩ : BufTy).Contents (Elt F)),
   StableHlo.nullary main_cst_1 (constant S_ .f32 0x3F800000#32),
   StableHlo.binary main_cst_1 main_v0 main_v1 (subf : (⟨S_, .f32⟩ : BufTy).Contents (Elt F) → (⟨S_, .f32⟩ : BufTy).Contents (Elt F) → (⟨S_, .f32⟩ : BufTy).Contents (Elt F))]

/-- The log-softmax's lines. -/
def opsB : List (HloOp τ sig (Elt F)) :=
  [StableHlo.nullary main_call0_cst (constant S_ .f32 0xFF800000#32),
   StableHlo.binary main_arg0 main_call0_cst main_call0_v0 ((fun x v => Host.reduce FloatOps.maximumf x v reducesTo_S1024x100000_S1024_d1 h_S_) : (⟨S1024x100000, .f32⟩ : BufTy).Contents (Elt F) → (⟨S_, .f32⟩ : BufTy).Contents (Elt F) → (⟨S1024, .f32⟩ : BufTy).Contents (Elt F)),
   StableHlo.nullary main_call0_cst_0 (constant S_ .f32 0xFF800000#32),
   StableHlo.unary main_call0_cst_0 main_call0_v1 ((broadcastInDim S1024 ![] bcast_S_S1024) : (⟨S_, .f32⟩ : BufTy).Contents (Elt F) → (⟨S1024, .f32⟩ : BufTy).Contents (Elt F)),
   StableHlo.binary main_call0_v1 main_call0_v0 main_call0_v2 (maximumf : (⟨S1024, .f32⟩ : BufTy).Contents (Elt F) → (⟨S1024, .f32⟩ : BufTy).Contents (Elt F) → (⟨S1024, .f32⟩ : BufTy).Contents (Elt F)),
   StableHlo.unary main_call0_v2 main_call0_v3 ((broadcastInDim S1024x1 ![0] bcast_S1024_S1024x1_0) : (⟨S1024, .f32⟩ : BufTy).Contents (Elt F) → (⟨S1024x1, .f32⟩ : BufTy).Contents (Elt F)),
   StableHlo.unary main_call0_v3 main_call0_v4 ((broadcastInDim S1024x100000 ![0, 1] bcast_S1024x1_S1024x100000_0_1) : (⟨S1024x1, .f32⟩ : BufTy).Contents (Elt F) → (⟨S1024x100000, .f32⟩ : BufTy).Contents (Elt F)),
   StableHlo.binary main_arg0 main_call0_v4 main_call0_v5 (subf : (⟨S1024x100000, .f32⟩ : BufTy).Contents (Elt F) → (⟨S1024x100000, .f32⟩ : BufTy).Contents (Elt F) → (⟨S1024x100000, .f32⟩ : BufTy).Contents (Elt F)),
   StableHlo.unary main_call0_v5 main_call0_v6 (Host.exp : (⟨S1024x100000, .f32⟩ : BufTy).Contents (Elt F) → (⟨S1024x100000, .f32⟩ : BufTy).Contents (Elt F)),
   StableHlo.nullary main_call0_cst_1 (constant S_ .f32 0x00000000#32),
   StableHlo.binary main_call0_v6 main_call0_cst_1 main_call0_v7 ((fun x v => Host.reduceAdd x v reducesTo_S1024x100000_S1024_d1 h_S_) : (⟨S1024x100000, .f32⟩ : BufTy).Contents (Elt F) → (⟨S_, .f32⟩ : BufTy).Contents (Elt F) → (⟨S1024, .f32⟩ : BufTy).Contents (Elt F)),
   StableHlo.unary main_call0_v7 main_call0_v8 ((broadcastInDim S1024x1 ![0] bcast_S1024_S1024x1_0) : (⟨S1024, .f32⟩ : BufTy).Contents (Elt F) → (⟨S1024x1, .f32⟩ : BufTy).Contents (Elt F)),
   StableHlo.unary main_call0_v8 main_call0_v9 (Host.log : (⟨S1024x1, .f32⟩ : BufTy).Contents (Elt F) → (⟨S1024x1, .f32⟩ : BufTy).Contents (Elt F)),
   StableHlo.unary main_call0_v9 main_call0_v10 ((broadcastInDim S1024x100000 ![0, 1] bcast_S1024x1_S1024x100000_0_1) : (⟨S1024x1, .f32⟩ : BufTy).Contents (Elt F) → (⟨S1024x100000, .f32⟩ : BufTy).Contents (Elt F)),
   StableHlo.binary main_call0_v5 main_call0_v10 main_v2 (subf : (⟨S1024x100000, .f32⟩ : BufTy).Contents (Elt F) → (⟨S1024x100000, .f32⟩ : BufTy).Contents (Elt F) → (⟨S1024x100000, .f32⟩ : BufTy).Contents (Elt F))]

/-- The lines after it. -/
def opsC : List (HloOp τ sig (Elt F)) :=
  [StableHlo.nullary main_cst_2 (constant S_ .f32 0x47C34F80#32),
   StableHlo.binary main_v0 main_cst_2 main_v3 (Host.divf : (⟨S_, .f32⟩ : BufTy).Contents (Elt F) → (⟨S_, .f32⟩ : BufTy).Contents (Elt F) → (⟨S_, .f32⟩ : BufTy).Contents (Elt F)),
   StableHlo.unary main_v3 main_v4 (broadcastInDim S1024x100000 ![] bcast_S_S1024x100000 : (⟨S_, .f32⟩ : BufTy).Contents (Elt F) → (⟨S1024x100000, .f32⟩ : BufTy).Contents (Elt F)),
   StableHlo.nullary main_v5 (iotaInDim S1024 32 0),
   StableHlo.nullary main_c (constantI S_ 32 0#32),
   StableHlo.unary main_c main_v6 (broadcastInDim S1024 ![] bcast_S_S1024 : (⟨S_, .i32⟩ : BufTy).Contents (Elt F) → (⟨S1024, .i32⟩ : BufTy).Contents (Elt F)),
   StableHlo.binary main_v5 main_v6 main_v7 (cmpi .slt : (⟨S1024, .i32⟩ : BufTy).Contents (Elt F) → (⟨S1024, .i32⟩ : BufTy).Contents (Elt F) → (⟨S1024, .i1⟩ : BufTy).Contents (Elt F)),
   StableHlo.nullary main_c_3 (constantI S_ 32 1024#32),
   StableHlo.unary main_c_3 main_v8 (broadcastInDim S1024 ![] bcast_S_S1024 : (⟨S_, .i32⟩ : BufTy).Contents (Elt F) → (⟨S1024, .i32⟩ : BufTy).Contents (Elt F)),
   StableHlo.binary main_v5 main_v8 main_v9 (addi : (⟨S1024, .i32⟩ : BufTy).Contents (Elt F) → (⟨S1024, .i32⟩ : BufTy).Contents (Elt F) → (⟨S1024, .i32⟩ : BufTy).Contents (Elt F)),
   StableHlo.ternary main_v7 main_v9 main_v5 main_v10 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
   StableHlo.nullary main_c_4 (constantI S_ 32 0#32),
   StableHlo.unary main_c_4 main_v11 (broadcastInDim S1024 ![] bcast_S_S1024 : (⟨S_, .i32⟩ : BufTy).Contents (Elt F) → (⟨S1024, .i32⟩ : BufTy).Contents (Elt F)),
   StableHlo.binary main_arg1 main_v11 main_v12 (cmpi .slt : (⟨S1024, .i32⟩ : BufTy).Contents (Elt F) → (⟨S1024, .i32⟩ : BufTy).Contents (Elt F) → (⟨S1024, .i1⟩ : BufTy).Contents (Elt F)),
   StableHlo.nullary main_c_5 (constantI S_ 32 100000#32),
   StableHlo.unary main_c_5 main_v13 (broadcastInDim S1024 ![] bcast_S_S1024 : (⟨S_, .i32⟩ : BufTy).Contents (Elt F) → (⟨S1024, .i32⟩ : BufTy).Contents (Elt F)),
   StableHlo.binary main_arg1 main_v13 main_v14 (addi : (⟨S1024, .i32⟩ : BufTy).Contents (Elt F) → (⟨S1024, .i32⟩ : BufTy).Contents (Elt F) → (⟨S1024, .i32⟩ : BufTy).Contents (Elt F)),
   StableHlo.ternary main_v12 main_v14 main_arg1 main_v15 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
   StableHlo.unary main_v10 main_v16 (broadcastInDim S1024x1 ![0] bcast_S1024_S1024x1_0 : (⟨S1024, .i32⟩ : BufTy).Contents (Elt F) → (⟨S1024x1, .i32⟩ : BufTy).Contents (Elt F)),
   StableHlo.unary main_v15 main_v17 (broadcastInDim S1024x1 ![0] bcast_S1024_S1024x1_0 : (⟨S1024, .i32⟩ : BufTy).Contents (Elt F) → (⟨S1024x1, .i32⟩ : BufTy).Contents (Elt F)),
   StableHlo.binary main_v16 main_v17 main_v18 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)),
   StableHlo.unary main_v1 main_v19 (broadcastInDim S1024 ![] bcast_S_S1024 : (⟨S_, .f32⟩ : BufTy).Contents (Elt F) → (⟨S1024, .f32⟩ : BufTy).Contents (Elt F)),
   StableHlo.ternary main_v4 main_v18 main_v19 main_v20 ((fun x i u => Host.scatter scatter_S1024x100000_S1024x2_S1024_n_01_01_1 (fun _ b => b) x i u) : (⟨S1024x100000, .f32⟩ : BufTy).Contents (Elt F) → (⟨S1024x2, .i32⟩ : BufTy).Contents (Elt F) → (⟨S1024, .f32⟩ : BufTy).Contents (Elt F) → (⟨S1024x100000, .f32⟩ : BufTy).Contents (Elt F)),
   StableHlo.unary main_v20 main_v21 (Host.log : (⟨S1024x100000, .f32⟩ : BufTy).Contents (Elt F) → (⟨S1024x100000, .f32⟩ : BufTy).Contents (Elt F)),
   StableHlo.binary main_v21 main_v2 main_v22 (subf : (⟨S1024x100000, .f32⟩ : BufTy).Contents (Elt F) → (⟨S1024x100000, .f32⟩ : BufTy).Contents (Elt F) → (⟨S1024x100000, .f32⟩ : BufTy).Contents (Elt F)),
   StableHlo.binary main_v20 main_v22 main_v23 (mulf : (⟨S1024x100000, .f32⟩ : BufTy).Contents (Elt F) → (⟨S1024x100000, .f32⟩ : BufTy).Contents (Elt F) → (⟨S1024x100000, .f32⟩ : BufTy).Contents (Elt F)),
   StableHlo.nullary main_cst_6 (constant S_ .f32 0x00000000#32),
   StableHlo.binary main_v23 main_cst_6 main_v24 ((fun x v => Host.reduceAdd x v reducesTo_S1024x100000_S_d0_1 h_S_) : (⟨S1024x100000, .f32⟩ : BufTy).Contents (Elt F) → (⟨S_, .f32⟩ : BufTy).Contents (Elt F) → (⟨S_, .f32⟩ : BufTy).Contents (Elt F)),
   StableHlo.nullary main_cst_7 (constant S_ .f32 0x44800000#32),
   StableHlo.binary main_v24 main_cst_7 main_v25 (Host.divf : (⟨S_, .f32⟩ : BufTy).Contents (Elt F) → (⟨S_, .f32⟩ : BufTy).Contents (Elt F) → (⟨S_, .f32⟩ : BufTy).Contents (Elt F))]

/-- The reference's lines, in order. -/
abbrev opsR : List (HloOp τ sig (Elt F)) := opsA ++ (opsB ++ opsC)

/-- A line of host operations followed by another program. -/
theorem seq_then {ops ops' : List (HloOp τ sig (Elt F))} {Λ : Labels} {k : Prog (TpuEff nD τ sig (Elt F) Λ .tc) PUnit}
    (h : StableHlo.IsSeq k ops') : StableHlo.IsSeq (StableHlo.seq (nD := nD) ops >>= fun _ => k) (ops ++ ops') := by
  induction ops with
  | nil => exact h
  | cons op ops ih => exact StableHlo.IsSeq.cons ih

/-- One line first, under another spelling of it. -/
theorem seq_cons {op op' : HloOp τ sig (Elt F)} {Λ : Labels} {k : Prog (TpuEff nD τ sig (Elt F) Λ .tc) PUnit} {ops : List (HloOp τ sig (Elt F))}
    (e : op = op') (h : StableHlo.IsSeq k ops) : StableHlo.IsSeq ((hlo rfl op fun _ => .ret (⟨⟩ : PUnit)) >>= fun _ => k) (op' :: ops) := by
  subst e; exact StableHlo.IsSeq.cons h

omit [FloatOps F] in
/-- An operation of a function called, at buffers of its own types, is the plain operation. -/
theorem un_of (a b : Ref sig .tc) (da ua db ub) (f : a.ty.Contents (Elt F) → b.ty.Contents (Elt F)) (h h') :
    (StableHlo.TRef.unary (τ := τ) ⟨a, rfl, da, ua⟩ ⟨b, rfl, db, ub⟩ f) = StableHlo.unary a b f h h' := rfl
omit [FloatOps F] in
/-- The same of an operation of two operands, -/
theorem bin_of (a b c : Ref sig .tc) (da ua db ub dc uc) (f : a.ty.Contents (Elt F) → b.ty.Contents (Elt F) → c.ty.Contents (Elt F)) (h h' h'') :
    (StableHlo.TRef.binary (τ := τ) ⟨a, rfl, da, ua⟩ ⟨b, rfl, db, ub⟩ ⟨c, rfl, dc, uc⟩ f) = StableHlo.binary a b c f h h' h'' := rfl
omit [FloatOps F] in
/-- and of one of none. -/
theorem null_of (a : Ref sig .tc) (da ua) (f : a.ty.Contents (Elt F)) (h) :
    (StableHlo.TRef.nullary (τ := τ) ⟨a, rfl, da, ua⟩ f) = StableHlo.nullary a f h := rfl

/-- The log-softmax's body is its lines in order. -/
theorem body_seq : fn_log_softmax.body (F := F) (.of main_arg0) main_call0 = StableHlo.seq opsB := by
  show StableHlo.IsSeq _ _
  unfold fn_log_softmax.body opsB
  refine seq_cons (null_of ..) ?_
  refine seq_cons (bin_of ..) ?_
  refine seq_cons (null_of ..) ?_
  refine seq_cons (un_of ..) ?_
  refine seq_cons (bin_of ..) ?_
  refine seq_cons (un_of ..) ?_
  refine seq_cons (un_of ..) ?_
  refine seq_cons (bin_of ..) ?_
  refine seq_cons (un_of ..) ?_
  refine seq_cons (null_of ..) ?_
  refine seq_cons (bin_of ..) ?_
  refine seq_cons (un_of ..) ?_
  refine seq_cons (un_of ..) ?_
  refine seq_cons (un_of ..) ?_
  refine seq_cons (bin_of ..) ?_
  exact StableHlo.IsSeq.nil

/-- The lines after it, in order. -/
theorem main_seq (d : Dev nD) : StableHlo.IsSeq (main (F := F) d) opsR := by
  unfold main opsR opsA
  rw [body_seq]
  refine StableHlo.IsSeq.cons (StableHlo.IsSeq.cons (StableHlo.IsSeq.cons (StableHlo.IsSeq.cons (StableHlo.IsSeq.cons ?_))))
  refine seq_then ?_
  unfold opsC
  repeat (first | exact StableHlo.IsSeq.nil | refine StableHlo.IsSeq.cons ?_)

/-- Every score less its row's greatest, less the logarithm of the row's sum of exponentials of that. -/
def logp (x : FVec F S1024x100000 .f32) : FVec F S1024x100000 .f32 :=
  let top : FVec F S1024 .f32 := maximumf (broadcastInDim S1024 ![] bcast_S_S1024 (constant S_ .f32 0xFF800000#32))
    (Host.reduce FloatOps.maximumf x (constant S_ .f32 0xFF800000#32) reducesTo_S1024x100000_S1024_d1 h_S_)
  let low : FVec F S1024x100000 .f32 := subf x (broadcastInDim S1024x100000 ![0, 1] bcast_S1024x1_S1024x100000_0_1 (broadcastInDim S1024x1 ![0] bcast_S1024_S1024x1_0 top))
  let sum : FVec F S1024 .f32 := Host.reduceAdd (Host.exp low) (constant S_ .f32 0x00000000#32) reducesTo_S1024x100000_S1024_d1 h_S_
  subf low (broadcastInDim S1024x100000 ![0, 1] bcast_S1024x1_S1024x100000_0_1 (Host.log (broadcastInDim S1024x1 ![0] bcast_S1024_S1024x1_0 sum)))

/-- The smoothing, a tenth, as the host divides it out, -/
def smooth : FVec F S_ .f32 := Host.divf (constant S_ .f32 0x3F800000#32) (constant S_ .f32 0x41200000#32)
/-- the confidence, -/
def conf : FVec F S_ .f32 := subf (constant S_ .f32 0x3F800000#32) smooth
/-- and the smoothing's share of one class that is not the target. -/
def eps : FVec F S_ .f32 := Host.divf smooth (constant S_ .f32 0x47C34F80#32)

/-- The pairs (row, target) the confidence is put at. -/
def places (t : IVec S1024 32) : IVec S1024x2 32 :=
  let row : IVec S1024 32 := select (cmpi .slt (iotaInDim S1024 32 0) (broadcastInDim S1024 ![] bcast_S_S1024 (constantI S_ 32 0#32)))
    (addi (iotaInDim S1024 32 0) (broadcastInDim S1024 ![] bcast_S_S1024 (constantI S_ 32 1024#32))) (iotaInDim S1024 32 0)
  let col : IVec S1024 32 := select (cmpi .slt t (broadcastInDim S1024 ![] bcast_S_S1024 (constantI S_ 32 0#32)))
    (addi t (broadcastInDim S1024 ![] bcast_S_S1024 (constantI S_ 32 100000#32))) t
  concatenate S1024x2 1 [⟨S1024x1, broadcastInDim S1024x1 ![0] bcast_S1024_S1024x1_0 row⟩, ⟨S1024x1, broadcastInDim S1024x1 ![0] bcast_S1024_S1024x1_0 col⟩]
    concatenates_S1024x1_S1024x1_S1024x2_d1

/-- The smoothed targets. -/
def dist (t : IVec S1024 32) : FVec F S1024x100000 .f32 :=
  Host.scatter scatter_S1024x100000_S1024x2_S1024_n_01_01_1 (fun _ b => b) (broadcastInDim S1024x100000 ![] bcast_S_S1024x100000 eps) (places t)
    (broadcastInDim S1024 ![] bcast_S_S1024 conf)

/-- The reference's result. -/
def loss (x : FVec F S1024x100000 .f32) (t : IVec S1024 32) : FVec F S_ .f32 :=
  Host.divf (Host.reduceAdd (mulf (dist t) (subf (Host.log (dist t)) (logp x))) (constant S_ .f32 0x00000000#32) reducesTo_S1024x100000_S_d0_1 h_S_)
    (constant S_ .f32 0x44800000#32)

variable (V : Valuation τ sig (Elt F))

/-- After the first lines: the smoothing, -/
theorem A_v0 : StableHlo.after opsA V (Proc.devRef .tc main_v0) = (smooth : FVec F S_ .f32) := by
  unfold opsA; after_results; rfl
/-- the confidence, -/
theorem A_v1 : StableHlo.after opsA V (Proc.devRef .tc main_v1) = (conf : FVec F S_ .f32) := by
  unfold opsA; after_results; rfl
/-- and the arguments, the scores -/
theorem A_arg0 : StableHlo.after opsA V (Proc.devRef .tc main_arg0) = V (Proc.devRef .tc main_arg0) := by
  unfold opsA; after_results
/-- and the targets, as they were. -/
theorem A_arg1 : StableHlo.after opsA V (Proc.devRef .tc main_arg1) = V (Proc.devRef .tc main_arg1) := by
  unfold opsA; after_results
/-- After the log-softmax: its result, -/
theorem B_v2 : StableHlo.after opsB V (Proc.devRef .tc main_v2) = logp (V (Proc.devRef .tc main_arg0)) := by
  unfold opsB; after_results; rfl
/-- the smoothing still, -/
theorem B_v0 : StableHlo.after opsB V (Proc.devRef .tc main_v0) = V (Proc.devRef .tc main_v0) := by
  unfold opsB; after_results
/-- the confidence still, -/
theorem B_v1 : StableHlo.after opsB V (Proc.devRef .tc main_v1) = V (Proc.devRef .tc main_v1) := by
  unfold opsB; after_results
/-- and the arguments, the scores -/
theorem B_arg0 : StableHlo.after opsB V (Proc.devRef .tc main_arg0) = V (Proc.devRef .tc main_arg0) := by
  unfold opsB; after_results
/-- and the targets, as they were. -/
theorem B_arg1 : StableHlo.after opsB V (Proc.devRef .tc main_arg1) = V (Proc.devRef .tc main_arg1) := by
  unfold opsB; after_results
/-- After the last lines: the scores as they were, -/
theorem C_arg0 : StableHlo.after opsC V (Proc.devRef .tc main_arg0) = V (Proc.devRef .tc main_arg0) := by
  unfold opsC; after_results
/-- the targets as they were, -/
theorem C_arg1 : StableHlo.after opsC V (Proc.devRef .tc main_arg1) = V (Proc.devRef .tc main_arg1) := by
  unfold opsC; after_results
/-- and the result. -/
theorem C_v25 (h0 : V (Proc.devRef .tc main_v0) = (smooth : FVec F S_ .f32)) (h1 : V (Proc.devRef .tc main_v1) = (conf : FVec F S_ .f32))
    (x : FVec F S1024x100000 .f32) (h2 : V (Proc.devRef .tc main_v2) = logp x) :
    StableHlo.after opsC V (Proc.devRef .tc main_v25) = loss x (V (Proc.devRef .tc main_arg1)) := by
  unfold opsC; after_results; rw [h0, h1, h2]; rfl

/-- Two lists of lines one after the other. -/
theorem after_two {ops ops' : List (HloOp τ sig (Elt F))} : StableHlo.after (ops ++ ops') V = StableHlo.after ops' (StableHlo.after ops V) := by
  induction ops generalizing V with
  | nil => rfl
  | cons op ops ih => exact ih _

/-- After all the lines: the result is `loss` of the arguments. -/
theorem R_v25 : StableHlo.after opsR V (Proc.devRef .tc main_v25) = loss (V (Proc.devRef .tc main_arg0)) (V (Proc.devRef .tc main_arg1)) := by
  unfold opsR
  rw [after_two, after_two, C_v25 _ ((B_v0 _).trans (A_v0 V)) ((B_v1 _).trans (A_v1 V)) _ (B_v2 _), B_arg1, A_arg1, A_arg0]
/-- The scores are as they were, -/
theorem R_arg0 : StableHlo.after opsR V (Proc.devRef .tc main_arg0) = V (Proc.devRef .tc main_arg0) := by
  unfold opsR
  rw [after_two, after_two, C_arg0, B_arg0, A_arg0]
/-- and the targets. -/
theorem R_arg1 : StableHlo.after opsR V (Proc.devRef .tc main_arg1) = V (Proc.devRef .tc main_arg1) := by
  unfold opsR
  rw [after_two, after_two, C_arg1, B_arg1, A_arg1]

/-- The lines touch the core's buffers only, -/
theorem opsR_bufs : (opsR (F := F)).Forall fun op => op.bufs ⊆ StableHlo.tcRefs τ sig := by
  simp [opsR, opsA, opsB, opsC]
/-- and need no buffer that is new. -/
theorem opsR_fresh : ∀ op ∈ opsR (F := F), op.fresh = ∅ := List.forall_iff_forall_mem.mp (StableHlo.forall_fresh_of_map rfl)

/-- Every run of the reference ends with its result at `loss` of the arguments, the arguments as they were, and every
    semaphore at zero, there being none. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v25) = loss (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  θ_run_mono (StableHlo.run_hlo defs main main_seq (by decide) (by decide) opsR_bufs opsR_fresh m ρ) fun r h =>
    ⟨fun c => ⟨(h c main_v25).trans (R_v25 _), (h c main_arg0).trans (R_arg0 _), (h c main_arg1).trans (R_arg1 _)⟩, Idealize.ShloMosaic.sem_eq_zero_of_no_sems (by decide) r.2⟩

/-- The reference's frame, -/
theorem frame : Cert.quiescent_ReferenceIdeal := fun m g _ => θ_run_mono (run (F := Ideal) m g) fun _ q => ⟨fun c => (q.1 c).2, q.2⟩
/-- and the same under the value's precondition. -/
theorem frame_pre [Cert.Pre_in_range.Facts] : Cert.quiescent_ReferenceIdeal_pre_in_range := fun m g _ =>
  θ_run_mono (run (F := Ideal) m g) fun _ q => ⟨fun c => (q.1 c).2, q.2⟩

end Cert.Proof.Ref

end
-- ==== Proof.RefBits.lean ====
/-
  The frame of the reference as printed, on the words of its floats: its text is that of its idealization, in which no
  constant is named.
-/
module

public import proofs.«01_k».proof.Proof.Ref

@[expose] public section

noncomputable section

namespace Cert.Proof.RefBits

open Idealize.ShloMosaic Idealize.SL.Sem Cert.ReferenceIdeal.Gen

/-- The side conditions of the printed text, -/
instance facts₀ : Cert.Reference.Facts₀ where
  reducesTo_S1024x100000_S1024_d1 := @reducesTo_S1024x100000_S1024_d1
  h_S_ := @h_S_
  bcast_S_S1024 := @bcast_S_S1024
  bcast_S1024_S1024x1_0 := @bcast_S1024_S1024x1_0
  bcast_S1024x1_S1024x100000_0_1 := @bcast_S1024x1_S1024x100000_0_1
  bcast_S_S1024x100000 := @bcast_S_S1024x100000
  concatenates_S1024x1_S1024x1_S1024x2_d1 := @concatenates_S1024x1_S1024x1_S1024x2_d1
  reducesTo_S1024x100000_S_d0_1 := @reducesTo_S1024x100000_S_d0_1
  scatter_S1024x100000_S1024x2_S1024_n_01_01_1_wf := @scatter_S1024x100000_S1024x2_S1024_n_01_01_1_wf

/-- which are the idealization's. -/
instance facts : Cert.Reference.Facts where

/-- The two texts are the same. -/
theorem main_eq : Cert.Reference.main (F := Bits) = Cert.ReferenceIdeal.main (F := Bits) := rfl
/-- The two tables of bodies are the same, there being none in them. -/
theorem defs_eq : Cert.Reference.defs (F := Bits) = Cert.ReferenceIdeal.defs (F := Bits) := rfl

/-- The printed reference's frame. -/
theorem frame : Cert.quiescent_Reference := fun m g _ => by
  have r := Ref.run (F := Bits) m g
  rw [← defs_eq, ← main_eq] at r
  exact θ_run_mono r fun _ q => ⟨fun c => (q.1 c).2, q.2⟩

end Cert.Proof.RefBits

end
-- ==== Proof.Reals.lean ====
/-
  The mathematics: the two programs' constants as real numbers, sums of real numbers among the extended reals, and the
  identity between the reference's double sum and the kernel's sum by rows.
-/
module

public import Idealize.ShloMosaic.PureOps.Ideal.Laws
public import Idealize.ShloMosaic.Lib.IdealHost
public import Mathlib.Analysis.SpecialFunctions.Log.Basic

@[expose] public section

noncomputable section

namespace Cert.Proof.Reals

open Idealize.ShloMosaic

/-! ## The constants -/

/-- The divisor of the smoothing is ten, -/
theorem of_ten : Ideal.ofBits .f32 0x41200000#32 = ((10 : ℝ) : EReal) := by
  simp [Ideal.ofBits, Ideal.ieee, -EReal.coe_mul]; norm_num
/-- the classes that are not the target number 99999, -/
theorem of_rest : Ideal.ofBits .f32 0x47C34F80#32 = ((99999 : ℝ) : EReal) := by
  simp [Ideal.ofBits, Ideal.ieee, -EReal.coe_mul]; norm_num
/-- and the rows number 1024. -/
theorem of_rows : Ideal.ofBits .f32 0x44800000#32 = ((1024 : ℝ) : EReal) := by
  simp [Ideal.ofBits, Ideal.ieee, -EReal.coe_mul]; norm_num
/-- The pattern of infinity is infinity. -/
theorem of_inf : Ideal.ofBits .f32 0x7F800000#32 = ⊤ := by
  simp [Ideal.ofBits, Ideal.ieee]
/-- The pattern of minus infinity is minus infinity. -/
theorem of_ninf : Ideal.ofBits .f32 0xFF800000#32 = ⊥ := by
  simp [Ideal.ofBits, Ideal.ieee]

/-- A quotient of reals, the divisor not zero, is the reals' quotient. -/
theorem div_real {y : ℝ} (h : y ≠ 0) (x : ℝ) : Ideal.div (x : EReal) (y : EReal) = ((x / y : ℝ) : EReal) := by
  rw [Ideal.div_coe h, ← EReal.coe_mul, mul_one_div]

/-- The logarithm of a positive real is the reals'. -/
theorem log_real {x : ℝ} (h : 0 < x) : Ideal.log (x : EReal) = ((Real.log x : ℝ) : EReal) := by
  rw [Ideal.log_coe, if_neg (not_le.2 h)]

/-- The smoothing, as both programs compute it, is a tenth; -/
theorem smooth_real : Ideal.div 1 (Ideal.ofBits .f32 0x41200000#32) = ((1 / 10 : ℝ) : EReal) := by
  rw [of_ten, ← EReal.coe_one, div_real (by norm_num)]
/-- the confidence is nine tenths, -/
theorem conf_real : 1 - Ideal.div 1 (Ideal.ofBits .f32 0x41200000#32) = ((9 / 10 : ℝ) : EReal) := by
  rw [smooth_real, ← EReal.coe_one, ← EReal.coe_sub]; norm_num
/-- and the share of every other class a 999990th. -/
theorem eps_real : Ideal.div (Ideal.div 1 (Ideal.ofBits .f32 0x41200000#32)) (Ideal.ofBits .f32 0x47C34F80#32) = ((1 / 999990 : ℝ) : EReal) := by
  rw [smooth_real, of_rest, div_real (by norm_num)]; norm_num

/-- A sum of reals, taken among the extended reals. -/
theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## One row -/

/-- One row of the loss: with `L` the row's logarithm of its sum of exponentials, the divergence of the smoothed target
    from the row's probabilities is a constant, less multiples of the row's sum and of its target's score, and `L`. -/
theorem row {ι : Type} [Fintype ι] [DecidableEq ι] (X : ι → ℝ) (T : ι) (L C E : ℝ) (h : C + ((Fintype.card ι : ℝ) - 1) * E = 1) :
    ∑ c, (if c = T then C else E) * (Real.log (if c = T then C else E) - (X c - L))
      = ((Fintype.card ι : ℝ) - 1) * E * Real.log E + C * Real.log C - (E * ∑ c, X c - L + (C - E) * X T) := by
  have e : ∀ c, (if c = T then C else E) * (Real.log (if c = T then C else E) - (X c - L))
      = (E * (Real.log E + L) - E * X c) + if c = T then (C * (Real.log C - (X T - L)) - E * (Real.log E - (X T - L))) else 0 := by
    intro c
    split
    · next q => subst q; ring
    · ring
  rw [Finset.sum_congr rfl fun c _ => e c, Finset.sum_add_distrib, Finset.sum_sub_distrib, Finset.sum_ite_eq' , Finset.sum_const, ← Finset.mul_sum]
  simp only [Finset.mem_univ, if_true, Finset.card_univ, nsmul_eq_mul]
  linear_combination L * h

/-- Taking the greatest score off every score of a row first does not change a score's logarithm of its probability. -/
theorem shift {ι : Type} [Fintype ι] [Nonempty ι] (X : ι → ℝ) (M : ℝ) (c : ι) :
    X c - M - Real.log (∑ k, Real.exp (X k - M)) = X c - Real.log (∑ k, Real.exp (X k)) := by
  have hp : 0 < ∑ k, Real.exp (X k) := Finset.sum_pos (fun k _ => Real.exp_pos _) Finset.univ_nonempty
  have e : ∑ k, Real.exp (X k - M) = (∑ k, Real.exp (X k)) * Real.exp (-M) := by
    rw [Finset.sum_mul]; exact Finset.sum_congr rfl fun k _ => by rw [← Real.exp_add]; rfl
  rw [e, Real.log_mul hp.ne' (Real.exp_pos _).ne', Real.log_exp]; ring

end Cert.Proof.Reals

end
-- ==== Proof.Wide.lean ====
/-
  The mathematics at infinite scores: sums among the extended reals with an infinity in them, and the two programs' rows
  there. A row that holds an infinite score makes the kernel's term minus infinity, and one of the reference's infinity.
-/
module

public import proofs.«01_k».proof.Proof.Reals

@[expose] public section

noncomputable section

namespace Cert.Proof.Wide

open Idealize.ShloMosaic

variable {ι : Type}

/-! ## Sums with an infinity -/

/-- A sum with minus infinity among its terms is minus infinity. -/
theorem sum_bot {s : Finset ι} {f : ι → EReal} {i : ι} (hi : i ∈ s) (h : f i = ⊥) : ∑ k ∈ s, f k = ⊥ := by
  classical
  rw [← Finset.add_sum_erase s f hi, h, EReal.bot_add]

/-- A sum is minus infinity only if a term is. -/
theorem sum_ne_bot {s : Finset ι} {f : ι → EReal} (h : ∀ k ∈ s, f k ≠ ⊥) : ∑ k ∈ s, f k ≠ ⊥ := by
  classical
  induction s using Finset.induction_on with
  | empty => simp
  | insert a s ha ih =>
    rw [Finset.sum_insert ha, Ne, EReal.add_eq_bot_iff, not_or]
    exact ⟨h a (Finset.mem_insert_self a s), ih fun k hk => h k (Finset.mem_insert_of_mem hk)⟩

/-- A sum with infinity among its terms, and without minus infinity, is infinity. -/
theorem sum_top {s : Finset ι} {f : ι → EReal} {i : ι} (hi : i ∈ s) (h : f i = ⊤) (hb : ∀ k ∈ s, f k ≠ ⊥) : ∑ k ∈ s, f k = ⊤ := by
  classical
  rw [← Finset.add_sum_erase s f hi, h]
  exact EReal.top_add_of_ne_bot (sum_ne_bot fun k hk => hb k (Finset.mem_of_mem_erase hk))

/-! ## Exponentials and logarithms -/

/-- An exponential is not negative. -/
theorem exp_nonneg (x : EReal) : 0 ≤ Ideal.exp x := by
  induction x with
  | bot => exact le_refl _
  | top => exact le_top
  | coe r => exact EReal.coe_nonneg.2 (Real.exp_pos r).le

/-- The exponential of anything but minus infinity is positive. -/
theorem exp_pos {x : EReal} (h : x ≠ ⊥) : 0 < Ideal.exp x := by
  induction x with
  | bot => exact absurd rfl h
  | top => exact EReal.coe_lt_top 0
  | coe r => exact EReal.coe_pos.2 (Real.exp_pos r)

/-- The logarithm of a positive number is not minus infinity. -/
theorem log_ne_bot {x : EReal} (h : 0 < x) : Ideal.log x ≠ ⊥ := by
  induction x with
  | bot => exact absurd h (not_lt.2 bot_le)
  | top => exact top_ne_bot
  | coe r => rw [Reals.log_real (EReal.coe_pos.1 h)]; exact EReal.coe_ne_bot _

/-- Infinity among a row's scores makes its sum of exponentials infinity. -/
theorem sum_exp_top {s : Finset ι} {f : ι → EReal} {i : ι} (hi : i ∈ s) (h : f i = ⊤) : ∑ k ∈ s, Ideal.exp (f k) = ⊤ :=
  sum_top hi (by rw [h]; rfl) fun k _ e => absurd (exp_nonneg (f k)) (by rw [e]; exact not_le.2 EReal.bot_lt_zero)

/-! ## The kernel's row -/

/-- A row with an infinite score makes the kernel's term minus infinity, whatever the target's score is: minus infinity
    makes its plain sum minus infinity, and infinity makes the logarithm of its sum of exponentials infinity. -/
theorem term_bot [Fintype ι] (X : ι → EReal) (c : ι) (h : X c = ⊤ ∨ X c = ⊥) {E : ℝ} (hE : 0 < E) (g : EReal) :
    (E : EReal) * ∑ k, X k - Ideal.log (∑ k, Ideal.exp (X k)) + g = ⊥ := by
  rcases h with h | h
  · rw [sum_exp_top (Finset.mem_univ c) h, Ideal.log_top, sub_eq_add_neg, EReal.neg_top, EReal.add_bot, EReal.bot_add]
  · rw [sum_bot (Finset.mem_univ c) h, EReal.coe_mul_bot_of_pos hE, EReal.bot_sub, EReal.bot_add]

/-! ## The reference's row -/

/-- A number less one that is at least it is not infinity. -/
theorem sub_ne_top {x y : EReal} (h : x ≤ y) : x - y ≠ ⊤ := by
  induction y with
  | bot => rw [le_bot_iff.1 h, EReal.bot_sub]; exact bot_ne_top
  | top => rw [sub_eq_add_neg, EReal.neg_top, EReal.add_bot]; exact bot_ne_top
  | coe r =>
    intro e
    induction x with
    | bot => rw [EReal.bot_sub] at e; exact bot_ne_top e
    | top => exact absurd (top_le_iff.1 h) (EReal.coe_ne_top r)
    | coe q => rw [← EReal.coe_sub] at e; exact EReal.coe_ne_top _ e

/-- An infinite number less one that is at least it is minus infinity. -/
theorem sub_bot {x y : EReal} (h : x ≤ y) (hx : x = ⊤ ∨ x = ⊥) : x - y = ⊥ := by
  rcases hx with rfl | rfl
  · rw [top_le_iff.1 h, sub_eq_add_neg, EReal.neg_top, EReal.add_bot]
  · exact EReal.bot_sub y

/-- Where no number of a row is infinity, neither is one less the logarithm of the row's sum of exponentials. -/
theorem logp_ne_top [Fintype ι] (f : ι → EReal) (h : ∀ k, f k ≠ ⊤) (c : ι) : f c - Ideal.log (∑ k, Ideal.exp (f k)) ≠ ⊤ := by
  by_cases hb : f c = ⊥
  · rw [hb, EReal.bot_sub]; exact bot_ne_top
  · have hs : 0 < ∑ k, Ideal.exp (f k) :=
      (exp_pos hb).trans_le (Finset.single_le_sum (f := fun k => Ideal.exp (f k)) (fun k _ => exp_nonneg (f k)) (Finset.mem_univ c))
    lift f c to ℝ using ⟨h c, hb⟩ with r
    rw [sub_eq_add_neg]
    exact EReal.add_ne_top (EReal.coe_ne_top r) fun e => log_ne_bot hs (EReal.neg_eq_top_iff.1 e)

/-- A target's term is not minus infinity where the logarithm of the probability is not infinity, -/
theorem dist_ne_bot {D : ℝ} (hD : 0 < D) {p : EReal} (h : p ≠ ⊤) : (D : EReal) * (Ideal.log (D : EReal) - p) ≠ ⊥ := by
  rw [Reals.log_real hD]
  induction p with
  | bot => rw [EReal.coe_sub_bot, EReal.coe_mul_top_of_pos hD]; exact top_ne_bot
  | top => exact absurd rfl h
  | coe r => rw [← EReal.coe_sub, ← EReal.coe_mul]; exact EReal.coe_ne_bot _

/-- and is infinity where that is minus infinity. -/
theorem dist_top {D : ℝ} (hD : 0 < D) {p : EReal} (h : p = ⊥) : (D : EReal) * (Ideal.log (D : EReal) - p) = ⊤ := by
  rw [Reals.log_real hD, h, EReal.coe_sub_bot, EReal.coe_mul_top_of_pos hD]

/-- A score is at most the greatest of its row. -/
theorem le_top [Fintype ι] (f : ι → EReal) (c : ι) : f c ≤ max ⊥ (Finset.univ.fold max ⊥ f) :=
  _root_.le_trans (Finset.le_fold_max (f c) |>.2 (.inr ⟨c, Finset.mem_univ c, le_rfl⟩)) (le_max_right _ _)

/-- An extended real that is neither infinity is a real number. -/
theorem real_of {x : EReal} (h : ¬(x = ⊤ ∨ x = ⊥)) : ∃ r : ℝ, x = (r : EReal) :=
  ⟨x.toReal, (EReal.coe_toReal (fun e => h (.inl e)) fun e => h (.inr e)).symm⟩

end Cert.Proof.Wide

end
-- ==== Proof.KVal.lean ====
/-
  The kernel's result at the ideal floats: a formula over the extended reals, a real number at real scores, and infinity
  where a score is infinite.
-/
module

public import proofs.«01_k».proof.Proof.Launch
public import Idealize.ShloMosaic.PureOps.Ideal.Laws
public import Idealize.ShloMosaic.Lib.IdealHost
public import Idealize.ShloMosaic.Lib.Pointwise
public import Idealize.ShloMosaic.Lib.Pipeline.ValueKit
public import proofs.«01_k».proof.Proof.Wide

@[expose] public section

noncomputable section

namespace Cert.Proof.KVal

open Cert.KernelIdeal Cert.KernelIdeal.Gen Cert.Proof.Run
open Idealize.ShloMosaic Idealize.ShloMosaic.TcCoe

/-- One block's exponentials are added to the row of sums, class by class. -/
theorem pay4_at (v0 : Vec Ideal S2000x1024 .f32) (v5 : Vec Ideal S1x1024 .f32) (b : Fin 1024) :
    k1_pay4 v0 v5 (ix2 0 b) = v5 (ix2 0 b) + ∑ k : Fin 2000, Ideal.exp (v0 (ix2 k b)) := by
  unfold k1_pay4 k1_pay1; pointwise

/-- One block's scores are added to the row of plain sums, class by class. -/
theorem pay5_at (v0 : Vec Ideal S2000x1024 .f32) (v5 : Vec Ideal S1x1024 .f32) (b : Fin 1024) :
    k1_pay5 v0 v5 (ix2 0 b) = v5 (ix2 0 b) + ∑ k : Fin 2000, v0 (ix2 k b) := by
  unfold k1_pay5 k1_pay1; pointwise

/-- The row of sums of exponentials starts at zero, -/
theorem pay2_at (b : Fin 1024) : k1_pay2 (F := Ideal) (ix2 0 b) = 0 := by
  unfold k1_pay2; pointwise

/-- and so does the row of plain sums. -/
theorem pay3_at (b : Fin 1024) : k1_pay3 (F := Ideal) (ix2 0 b) = 0 := by
  unfold k1_pay3; pointwise

/-- The named constant `eps` is a 999990th, -/
theorem named_eps : Named.named (F := Ideal) (φ := .f32) κ "eps" 0x35863815#32 = ((1 / 999990 : ℝ) : EReal) := rfl
/-- and `conf_less_eps` is nine tenths less that. -/
theorem named_diff : Named.named (F := Ideal) (φ := .f32) κ "conf_less_eps" 0x3F666656#32 = ((89999 / 99999 : ℝ) : EReal) := rfl

/-- The last point's result: the sum over the rows of each row's term, from its two sums and its target's score. -/
theorem pay6_at (s r g : Vec Ideal S1x1024 .f32) (j : S1x1x1.Idx) :
    k1_pay6 s r g j = ∑ b : Fin 1024, (((1 / 999990 : ℝ) : EReal) * r (ix2 0 b) - Ideal.log (s (ix2 0 b)) + ((89999 / 99999 : ℝ) : EReal) * g (ix2 0 b)) := by
  unfold k1_pay6; pointwise
  simp only [Finset.univ_unique, Finset.sum_singleton]
  refine Finset.sum_congr rfl fun b _ => ?_
  rw [← named_eps, ← named_diff]

section Blocks
variable (V : (c : Dev nD) → (b : Ref sig .tc) → Buf (Elt Ideal) ((c : Thread nD τ).loc b)) (c : Dev nD)

/-- Point `t` of the grid reads block `t` of the scores' classes, -/
theorem idx0a : ∀ t : Fin cfg1.N, win1_0.index t 0 = t.val := by decide
/-- every row of them, -/
theorem idx0b : ∀ t : Fin cfg1.N, win1_0.index t 1 = 0 := by decide
/-- and the gathered scores' only row, -/
theorem idx1a : ∀ t : Fin cfg1.N, win1_1.index t 0 = 0 := by decide
/-- all of it. -/
theorem idx1b : ∀ t : Fin cfg1.N, win1_1.index t 1 = 0 := by decide

/-- Block `t` of the scores holds classes `2000 t` and on. -/
theorem blkX_at (t : Fin cfg1.N) (k : Fin 2000) (b : Fin 1024) (h : t.val * 2000 + k.val < 100000) :
    blkX V c t (ix2 k b) = (V c main_v0 : Vec Ideal S100000x1024 .f32) (ix2 ⟨t.val * 2000 + k.val, h⟩ b) := by
  unfold blkX
  show (V c main_v0 : Vec Ideal S100000x1024 .f32) _ = _
  refine congrArg (V c main_v0 : Vec Ideal S100000x1024 .f32) ?_
  blk_ext [idx0a, idx0b]

/-- The row of gathered scores is read whole. -/
theorem blkG_at (t : Fin cfg1.N) (b : Fin 1024) :
    blkG V c t (ix2 0 b) = (V c main_v3 : Vec Ideal S1x1024 .f32) (ix2 0 b) := by
  unfold blkG
  show (V c main_v3 : Vec Ideal S1x1024 .f32) _ = _
  refine congrArg (V c main_v3 : Vec Ideal S1x1024 .f32) ?_
  blk_ext [idx1a, idx1b]

end Blocks

variable (m : (ℓ : Loc nD τ sig) → Buf (Elt Ideal) ℓ) (d : Dev nD)

/-- The scores with the classes first, read at a class and a row. -/
theorem turned_at (c : Fin 100000) (b : Fin 1024) : turned m d (ix2 c b) = (m (xLoc d) : Vec Ideal S1024x100000 .f32) (ix2 b c) := by
  unfold turned; pointwise

/-- The flat list's place for class `c` of row `b`. -/
theorem flat_at (c : Fin 100000) (b : Fin 1024) : flat m d (flatIx (c.val * 1024 + b.val)) = (m (xLoc d) : Vec Ideal S1024x100000 .f32) (ix2 b c) := by
  refine Eq.trans ?_ (turned_at m d c b)
  unfold flat
  refine shapeCast_apply _ _ _ _ ?_
  rw [Shape.rowMajor_val_two, Shape.rowMajor_val_one]
  show c.val * 1024 + b.val = (c.val * 1024 + b.val) % 102400000
  omega

/-- The gathered score of row `b` is its score of its target. -/
theorem gath_at (b : Fin 1024) (c : Fin 100000) (h : ((m (tLoc d) : Vec Ideal S1024 .i32) (ix1 b)).toNat = c.val) :
    gath m d (ix1 b) = (m (xLoc d) : Vec Ideal S1024x100000 .f32) (ix2 b c) := by
  refine Eq.trans ?_ (flat_at m d c b)
  unfold gath
  rw [h]; rfl

/-- The last host lines' value: a real constant, less the rows' mean of the sum that the loss kernel leaves. -/
theorem last_at (t : FVec Ideal S1x1x1 .f32) (j : S_.Idx) :
    lastOf t j = ((99999 * (1 / 999990) * Real.log (1 / 999990) + 9 / 10 * Real.log (9 / 10) : ℝ) : EReal) - Ideal.div (t (ix3 0 0 0)) ((1024 : ℝ) : EReal) := by
  unfold lastOf; pointwise
  rw [Reals.eps_real, Reals.conf_real, Reals.of_rest, Reals.of_rows, Reals.log_real (by norm_num), Reals.log_real (by norm_num)]
  norm_cast

/-! ## The sums, at any scores -/

variable (X : Fin 1024 → Fin 100000 → EReal)

/-- Row `b`'s score of class `n`, for any number `n`. -/
def col (b : Fin 1024) (n : ℕ) : EReal := if h : n < 100000 then X b ⟨n, h⟩ else 0

variable (hX : ∀ b c, (m (xLoc d) : Vec Ideal S1024x100000 .f32) (ix2 b c) = X b c)
include hX

/-- Block `n` of the scores. -/
theorem blk_at (n : ℕ) (hn : n < 50) (k : Fin 2000) (b : Fin 1024) :
    blkX (V3r m) d (pointN n) (ix2 k b) = col X b (2000 * n + k.val) := by
  have hp : (pointN n).val = n := Nat.mod_eq_of_lt hn
  have hk := k.isLt
  have h : (pointN n).val * 2000 + k.val < 100000 := by rw [hp]; omega
  have e : (⟨(pointN n).val * 2000 + k.val, h⟩ : Fin 100000) = ⟨2000 * n + k.val, by omega⟩ := Fin.ext (show (pointN n).val * 2000 + k.val = 2000 * n + k.val by rw [hp, Nat.mul_comm])
  rw [blkX_at _ _ _ _ _ h, V3_v0, turned_at, hX, e]
  unfold col
  rw [dif_pos]

/-- After `n` blocks a row's sum of exponentials holds its first `2000 n` classes'. -/
theorem sumS_at (b : Fin 1024) : ∀ n, n ≤ 50 → sumS (V3r m) d n (ix2 0 b) = ∑ c ∈ Finset.range (2000 * n), Ideal.exp (col X b c)
  | 0, _ => by rw [Nat.mul_zero, Finset.range_zero, Finset.sum_empty]; exact pay2_at b
  | n + 1, hn => by
    refine (pay4_at _ _ b).trans ?_
    have e : ∀ k : Fin 2000, Ideal.exp (blkX (V3r m) d (pointN n) (ix2 k b)) = Ideal.exp (col X b (2000 * n + k.val)) := fun k => by
      rw [blk_at m d X hX n (by omega) k b]
    rw [sumS_at b n (by omega), Finset.sum_congr rfl fun k _ => e k, Nat.mul_add, Nat.mul_one, Finset.sum_range_add, Finset.sum_range fun x => Ideal.exp (col X b (2000 * n + x))]

/-- After `n` blocks a row's plain sum holds its first `2000 n` classes'. -/
theorem sumR_at (b : Fin 1024) : ∀ n, n ≤ 50 → sumR (V3r m) d n (ix2 0 b) = ∑ c ∈ Finset.range (2000 * n), col X b c
  | 0, _ => by rw [Nat.mul_zero, Finset.range_zero, Finset.sum_empty]; exact pay3_at b
  | n + 1, hn => by
    refine (pay5_at _ _ b).trans ?_
    have e : ∀ k : Fin 2000, blkX (V3r m) d (pointN n) (ix2 k b) = col X b (2000 * n + k.val) := fun k =>
      blk_at m d X hX n (by omega) k b
    rw [sumR_at b n (by omega), Finset.sum_congr rfl fun k _ => e k, Nat.mul_add, Nat.mul_one, Finset.sum_range_add, Finset.sum_range fun x => col X b (2000 * n + x)]

omit hX in
/-- The classes counted by number are the classes. -/
theorem col_sum (f : EReal → EReal) (b : Fin 1024) : ∑ c ∈ Finset.range (2000 * 50), f (col X b c) = ∑ c, f (X b c) := by
  rw [show 2000 * 50 = 100000 from rfl, Finset.sum_range]
  refine Finset.sum_congr rfl fun c _ => ?_
  unfold col
  rw [dif_pos c.isLt]

variable (T : Fin 1024 → Fin 100000) (hT : ∀ b, ((m (tLoc d) : Vec Ideal S1024 .i32) (ix1 b)).toNat = (T b).val)
include hT

/-- The row of gathered scores. -/
theorem blkG_val (b : Fin 1024) : blkG (V3r m) d lastPt (ix2 0 b) = X b (T b) := by
  rw [blkG_at, V3_v3, ← hX, ← gath_at m d b (T b) (hT b)]
  refine shapeCast_apply _ _ _ _ ?_
  rw [Shape.rowMajor_val_two, Shape.rowMajor_val_one]
  show b.val = 0 * 1024 + b.val
  omega

/-- What the kernel call leaves: the sum of the rows' terms. -/
theorem loss_at (j : S1x1x1.Idx) : lossBuf (V3r m) d j
    = ∑ b, (((1 / 999990 : ℝ) : EReal) * ∑ c, X b c - Ideal.log (∑ c, Ideal.exp (X b c)) + ((89999 / 99999 : ℝ) : EReal) * X b (T b)) := by
  unfold lossBuf
  rw [pay6_at]
  refine Finset.sum_congr rfl fun b _ => ?_
  rw [sumR_at m d X hX b 50 le_rfl, sumS_at m d X hX b 50 le_rfl, blkG_val m d X hX T hT b, col_sum X Ideal.exp b, col_sum X (fun x => x) b]

/-- The kernel's result where a score is infinite: infinity. -/
theorem result_top (b : Fin 1024) (c : Fin 100000) (h : X b c = ⊤ ∨ X b c = ⊥) (j : S_.Idx) : lastOf (lossBuf (V3r m) d) j = ⊤ := by
  have e : lossBuf (V3r m) d (ix3 0 0 0) = ⊥ := (loss_at m d X hX T hT _).trans
    (Wide.sum_bot (Finset.mem_univ b) (Wide.term_bot (X b) c h (E := 1 / 999990) (by norm_num) _))
  rw [last_at, e, Ideal.div_coe (by norm_num), EReal.bot_mul_coe_of_pos (by norm_num), EReal.coe_sub_bot]

omit hX
/-- The kernel's result at real scores, as a real number. -/
theorem result (Y : Fin 1024 → Fin 100000 → ℝ) (hY : ∀ b c, (m (xLoc d) : Vec Ideal S1024x100000 .f32) (ix2 b c) = ((Y b c : ℝ) : EReal)) (j : S_.Idx) :
    lastOf (lossBuf (V3r m) d) j
    = ((99999 * (1 / 999990) * Real.log (1 / 999990) + 9 / 10 * Real.log (9 / 10)
        - (∑ b, (1 / 999990 * ∑ c, Y b c - Real.log (∑ c, Real.exp (Y b c)) + 89999 / 99999 * Y b (T b))) / 1024 : ℝ) : EReal) := by
  have e : ∀ b, ((1 / 999990 : ℝ) : EReal) * ∑ c, ((Y b c : ℝ) : EReal) - Ideal.log (∑ c, Ideal.exp ((Y b c : ℝ) : EReal)) + ((89999 / 99999 : ℝ) : EReal) * ((Y b (T b) : ℝ) : EReal)
      = ((1 / 999990 * ∑ c, Y b c - Real.log (∑ c, Real.exp (Y b c)) + 89999 / 99999 * Y b (T b) : ℝ) : EReal) := fun b => by
    have hp : 0 < ∑ c, Real.exp (Y b c) := Finset.sum_pos (fun k _ => Real.exp_pos _) Finset.univ_nonempty
    rw [Reals.sum_real, Finset.sum_congr rfl fun c _ => Ideal.exp_coe (Y b c), Reals.sum_real, Reals.log_real hp]
    norm_cast
  rw [last_at, loss_at m d (fun b c => ((Y b c : ℝ) : EReal)) hY T hT, Finset.sum_congr rfl fun b _ => e b, Reals.sum_real, Reals.div_real (by norm_num)]
  norm_cast

end Cert.Proof.KVal

end
-- ==== Proof.RVal.lean ====
/-
  The reference's result at the ideal floats: a real number at real scores, and infinity where a score is infinite.
-/
module

public import proofs.«01_k».proof.Proof.Ref
public import proofs.«01_k».proof.Proof.Wide
public import Idealize.ShloMosaic.Lib.Pointwise
public import Idealize.ShloMosaic.Lib.Routing.OpsOne
public import Idealize.ShloMosaic.Lib.Routing.OpsPair
public import Idealize.ShloMosaic.Lib.Routing.OpsSet

@[expose] public section

noncomputable section

namespace Cert.Proof.RVal

open Cert.ReferenceIdeal Cert.ReferenceIdeal.Gen Cert.Proof.Ref
open Idealize.ShloMosaic Idealize.ShloMosaic.Routing

/-! ## Reductions, at any extents -/

section Any
variable {N C : ℕ} {u : Shape}

/-- The greater of two arrays, read at a place. Likewise below: -/
theorem max_any {s : Shape} (a b : FVec Ideal s .f32) (j : s.Idx) : maximumf a b j = max (a j) (b j) := rfl
/-- The difference, -/
theorem sub_any {s : Shape} (a b : FVec Ideal s .f32) (j : s.Idx) : subf a b j = a j - b j := rfl
/-- the quotient, -/
theorem div_any {s : Shape} (a b : FVec Ideal s .f32) (j : s.Idx) : Host.divf a b j = Ideal.div (a j) (b j) := rfl
/-- and a target's term. -/
theorem term_any {s : Shape} (a b : FVec Ideal s .f32) (j : s.Idx) : mulf a (subf (Host.log a) b) j = a j * (Ideal.log (a j) - b j) := rfl

/-- A sum along a matrix's rows, from zero. -/
theorem row_sum (h : (⟨2, ![N, C]⟩ : Shape).ReducesTo [1] ⟨1, ![N]⟩) (hu : 0 < u.numel) (v : FVec Ideal ⟨2, ![N, C]⟩ .f32) (b : Fin N) :
    Host.reduceAdd v (constant u .f32 0x00000000#32) h hu (ix1 b) = ∑ k : Fin C, v (ix2 b k) := by
  rw [ValueIdx.hostReduceAdd_apply, Ideal.hostReduceAdd_r2_a1]
  show Ideal.ofBits .f32 0x00000000#32 + _ = _
  rw [Ideal.ofBits_zero_f32, zero_add]
  rfl

/-- A sum of a whole matrix, from zero. -/
theorem all_sum (h : (⟨2, ![N, C]⟩ : Shape).ReducesTo [0, 1] ⟨0, ![]⟩) (hu : 0 < u.numel) (v : FVec Ideal ⟨2, ![N, C]⟩ .f32) (j : (⟨0, ![]⟩ : Shape).Idx) :
    Host.reduceAdd v (constant u .f32 0x00000000#32) h hu j = ∑ b : Fin N, ∑ k : Fin C, v (ix2 b k) := by
  rw [ValueIdx.hostReduceAdd_apply, Ideal.hostReduceAdd_r2_a01]
  show Ideal.ofBits .f32 0x00000000#32 + _ = _
  rw [Ideal.ofBits_zero_f32, zero_add]

/-- The greatest of each of a matrix's rows, from minus infinity. -/
theorem row_max (h : (⟨2, ![N, C]⟩ : Shape).ReducesTo [1] ⟨1, ![N]⟩) (hu : 0 < u.numel) (v : FVec Ideal ⟨2, ![N, C]⟩ .f32) (b : Fin N) :
    Host.reduce FloatOps.maximumf v (constant u .f32 0xFF800000#32) h hu (ix1 b) = Finset.univ.fold max (Ideal.ofBits .f32 0xFF800000#32) fun k : Fin C => v (ix2 b k) := by
  pointwise

/-- The greatest of some real numbers, at least one, from minus infinity, is a real number. -/
theorem max_real {ι : Type} [DecidableEq ι] (f : ι → ℝ) (s : Finset ι) :
    (s = ∅ ∧ s.fold max (⊥ : EReal) (fun k => (f k : EReal)) = ⊥) ∨ ∃ M : ℝ, s.fold max (⊥ : EReal) (fun k => (f k : EReal)) = (M : EReal) := by
  induction s using Finset.induction_on with
  | empty => exact .inl ⟨rfl, rfl⟩
  | insert a s ha ih =>
    refine .inr ?_
    rw [Finset.fold_insert ha]
    rcases ih with ⟨-, e⟩ | ⟨M, e⟩
    · exact ⟨f a, by rw [e]; exact max_bot_right _⟩
    · exact ⟨max (f a) M, by rw [e]; exact (EReal.coe_strictMono.monotone.map_max).symm⟩

end Any

section Lands
variable {R C A w : ℕ}

/-- An update of a list of single elements, put at the pairs an `[A, 2]` list of indices holds, lands where its own pair says. -/
theorem lands (d : ScatterDims (shape2 R C) (shape2 A 2) (shape1 A)) (hiw : d.insertedWindowDims = [0, 1]) (hsd : d.scatterDimsToOperandDims = [0, 1])
    (hivd : d.indexVectorDim = 1) (idx : IVec (shape2 A 2) w) (a : Fin A) (r : Fin R) (c : Fin C) :
    d.resultIdx? (ix1 a) idx = some (ix2 r c) ↔ (idx (ix2 a 0)).toInt = r.val ∧ (idx (ix2 a 1)).toInt = c.val := by
  have mem : ∀ q : Fin 2, q ∈ ([0, 1] : List (Fin 2)) := by decide
  have hwin : ∀ q : Fin 2, d.window (ix1 a) q = 0 := fun q => by
    unfold ScatterDims.window
    exact dif_neg fun h => (of_decide_eq_true (List.mem_filter.1 h).2) (by rw [hiw]; exact mem q)
  have hstart : ∀ q : Fin 2, d.start (ix1 a) idx q = (idx (ix2 a q)).toInt := fun q => by
    have hq : q ∈ d.scatterDimsToOperandDims := hsd ▸ mem q
    unfold ScatterDims.start
    rw [dif_pos hq]
    refine congrArg (fun i => (idx i).toInt) (funext fun e => Fin.ext ?_)
    match e with
    | ⟨0, _⟩ =>
      unfold ScatterDims.siIdx
      rw [dif_neg (by rw [hivd]; exact Nat.zero_ne_one)]
      unfold ScatterDims.siCoord
      simp only [Fin.val_cast]
      exact congrArg (fun t => ((ix1 a : (shape1 A).Idx) t).val) (Subsingleton.elim (α := Fin 1) _ 0)
    | ⟨1, _⟩ =>
      unfold ScatterDims.siIdx
      rw [dif_pos (by rw [hivd])]
      show List.idxOf q d.scatterDimsToOperandDims = q.val
      rw [hsd]
      exact (by decide : ∀ q : Fin 2, List.idxOf q ([0, 1] : List (Fin 2)) = q.val) q
  refine (resultIdx?_ix2 d (ix1 a) idx r c).trans ?_
  rw [hstart, hstart, hwin, hwin]
  omega

end Lands

/-! ## The smoothed targets -/

variable (x : FVec Ideal S1024x100000 .f32) (t : IVec S1024 32)

/-- The confidence is nine tenths, -/
theorem conf_at (j : S_.Idx) : conf (F := Ideal) j = ((9 / 10 : ℝ) : EReal) := by
  unfold conf smooth; pointwise
  exact Reals.conf_real
/-- and every other class's share a 999990th. -/
theorem eps_at (j : S_.Idx) : eps (F := Ideal) j = ((1 / 999990 : ℝ) : EReal) := by
  unfold eps smooth; pointwise
  exact Reals.eps_real

/-- The first of row `b`'s pair is `b`, -/
theorem places_row (b : Fin 1024) : (places t (ix2 b 0)).toInt = b.val := by
  have h : places t (ix2 b 0) = BitVec.ofNat 32 b.val := by
    unfold places; pointwise
    exact wrap_of_lt _ _ (by rw [BitVec.toNat_ofNat]; have := b.isLt; omega)
  have := b.isLt
  have q : (BitVec.ofNat 32 b.val).toNat = b.val := by rw [BitVec.toNat_ofNat]; omega
  rw [h, BitVec.toInt_eq_toNat_of_lt (by omega), q]

/-- and the second its target. -/
theorem places_col (b : Fin 1024) (h : (t (ix1 b)).toNat < 100000) : (places t (ix2 b 1)).toInt = (t (ix1 b)).toNat := by
  have e : places t (ix2 b 1) = t (ix1 b) := by
    unfold places; pointwise
    exact wrap_of_lt _ _ (by omega)
  rw [e, BitVec.toInt_eq_toNat_of_lt (by omega)]

variable (T : Fin 1024 → Fin 100000) (hT : ∀ b, (t (ix1 b)).toNat = (T b).val)
include hT

/-- Which update lands where: row `b`'s at its target. -/
theorem hits (k b : Fin 1024) (c : Fin 100000) :
    scatter_S1024x100000_S1024x2_S1024_n_01_01_1.resultIdx? (ix1 k) (places t) = some (ix2 b c) ↔ k = b ∧ c = T b := by
  rw [lands _ rfl rfl rfl, places_row, places_col t k (by rw [hT]; exact (T k).isLt), hT]
  constructor
  · rintro ⟨h, h'⟩
    have e : k = b := Fin.ext (by omega)
    subst e
    exact ⟨rfl, Fin.ext (by omega)⟩
  · rintro ⟨rfl, rfl⟩
    exact ⟨rfl, rfl⟩

/-- The smoothed targets: the confidence at a row's target, and the smoothing's share elsewhere. -/
theorem dist_at (b : Fin 1024) (c : Fin 100000) : Ref.dist (F := Ideal) t (ix2 b c) = ((if c = T b then 9 / 10 else 1 / 999990 : ℝ) : EReal) := by
  unfold Ref.dist
  by_cases h : c = T b
  · rw [if_pos h]
    exact scatter_set_hit _ _ _ _ _ _ (fun k _ => (ValueIdx.broadcastInDim_scalar_apply _ _ _).trans (conf_at _)) (ix1 b) ((hits t T hT b b c).2 ⟨rfl, h⟩)
  · rw [if_neg h]
    refine (scatter_set_miss _ _ _ _ _ fun k hk => h ?_).trans ((ValueIdx.broadcastInDim_scalar_apply _ _ _).trans (eps_at _))
    rw [eq_ix1 k] at hk
    exact ((hits t T hT _ b c).1 hk).2

omit hT
/-! ## The logarithms of the probabilities -/

/-- The greatest of each row. -/
def top : FVec Ideal S1024 .f32 := maximumf (broadcastInDim S1024 ![] bcast_S_S1024 (constant S_ .f32 0xFF800000#32))
  (Host.reduce FloatOps.maximumf x (constant S_ .f32 0xFF800000#32) reducesTo_S1024x100000_S1024_d1 h_S_)

/-- A list with a number for each row, repeated along the row. -/
def along (y : FVec Ideal S1024 .f32) : FVec Ideal S1024x100000 .f32 :=
  broadcastInDim S1024x100000 ![0, 1] bcast_S1024x1_S1024x100000_0_1 (broadcastInDim S1024x1 ![0] bcast_S1024_S1024x1_0 y)

/-- Every score less its row's greatest. -/
def low : FVec Ideal S1024x100000 .f32 := subf x (along (top x))

/-- Each row's sum of exponentials of those. -/
def sums : FVec Ideal S1024 .f32 := Host.reduceAdd (Host.exp (low x)) (constant S_ .f32 0x00000000#32) reducesTo_S1024x100000_S1024_d1 h_S_

/-- The same logarithms, by those names. -/
theorem logp_eq : logp x = subf (low x) (broadcastInDim S1024x100000 ![0, 1] bcast_S1024x1_S1024x100000_0_1 (Host.log (broadcastInDim S1024x1 ![0] bcast_S1024_S1024x1_0 (sums x)))) := rfl

/-- A repeated list, read at a place. -/
theorem along_at (y : FVec Ideal S1024 .f32) (b : Fin 1024) (c : Fin 100000) : along y (ix2 b c) = y (ix1 b) := by
  unfold along; pointwise

/-- The rows' logarithms, repeated along them, read at a place. -/
theorem log_along (y : FVec Ideal S1024 .f32) (b : Fin 1024) (c : Fin 100000) :
    broadcastInDim S1024x100000 ![0, 1] bcast_S1024x1_S1024x100000_0_1 (Host.log (broadcastInDim S1024x1 ![0] bcast_S1024_S1024x1_0 y)) (ix2 b c) = Ideal.log (y (ix1 b)) := by
  pointwise

/-- A row's greatest, as a maximum over the row from minus infinity. -/
theorem top_at (b : Fin 1024) : top x (ix1 b) = max (Ideal.ofBits .f32 0xFF800000#32) (Finset.univ.fold max (Ideal.ofBits .f32 0xFF800000#32) fun k : Fin 100000 => x (ix2 b k)) := by
  unfold top
  exact (max_any _ _ _).trans (congrArg₂ max (ValueIdx.broadcastInDim_scalar_apply _ _ _) (row_max reducesTo_S1024x100000_S1024_d1 h_S_ x b))

/-- A row's sum of exponentials, as a sum. -/
theorem sums_at (b : Fin 1024) : sums x (ix1 b) = ∑ k : Fin 100000, Ideal.exp (low x (ix2 b k)) := by
  unfold sums
  exact row_sum reducesTo_S1024x100000_S1024_d1 h_S_ (Host.exp (low x)) b

variable (X : Fin 1024 → Fin 100000 → ℝ) (hX : ∀ b c, x (ix2 b c) = ((X b c : ℝ) : EReal))
include hX

/-- At real scores the greatest of a row is a real number. -/
theorem top_real (b : Fin 1024) : ∃ M : ℝ, top x (ix1 b) = (M : EReal) := by
  rw [top_at, Reals.of_ninf, show (fun k : Fin 100000 => x (ix2 b k)) = fun k => ((X b k : ℝ) : EReal) from funext fun k => hX b k]
  rcases max_real (X b) Finset.univ with ⟨e, -⟩ | ⟨M, e⟩
  · exact absurd e Finset.univ_nonempty.ne_empty
  · exact ⟨M, by rw [e]; exact max_bot_left _⟩

/-- At real scores the logarithm of a probability is the score less the logarithm of its row's sum of exponentials. -/
theorem logp_at (b : Fin 1024) (c : Fin 100000) : logp x (ix2 b c) = ((X b c - Real.log (∑ k, Real.exp (X b k)) : ℝ) : EReal) := by
  obtain ⟨M, hM⟩ := top_real x X hX b
  have hl : ∀ k, low x (ix2 b k) = ((X b k - M : ℝ) : EReal) := fun k => by
    unfold low
    rw [sub_any, along_at, hM, hX, EReal.coe_sub]
  have hs : sums x (ix1 b) = ((∑ k, Real.exp (X b k - M) : ℝ) : EReal) := by
    rw [sums_at, ← Reals.sum_real]
    exact Finset.sum_congr rfl fun k _ => by rw [hl, Ideal.exp_coe]
  have hp : 0 < ∑ k, Real.exp (X b k - M) := Finset.sum_pos (fun k _ => Real.exp_pos _) Finset.univ_nonempty
  rw [logp_eq, sub_any, log_along, hl, hs, Reals.log_real hp, ← EReal.coe_sub, Reals.shift]

/-- The terms the reference adds up. -/
def terms : FVec Ideal S1024x100000 .f32 := mulf (Ref.dist t) (subf (Host.log (Ref.dist t)) (logp x))

omit hX in
/-- The reference's result: the sum of its terms over the number of rows. -/
theorem loss_eq (j : S_.Idx) : loss x t j = Ideal.div (∑ b : Fin 1024, ∑ c : Fin 100000, terms x t (ix2 b c)) (Ideal.ofBits .f32 0x44800000#32) := by
  rw [← all_sum reducesTo_S1024x100000_S_d0_1 h_S_ (terms x t) j]
  exact div_any _ _ _

include hT

/-- One term, as a real number. -/
theorem terms_at (b : Fin 1024) (c : Fin 100000) : terms x t (ix2 b c)
    = (((if c = T b then 9 / 10 else 1 / 999990) * (Real.log (if c = T b then 9 / 10 else 1 / 999990) - (X b c - Real.log (∑ k, Real.exp (X b k)))) : ℝ) : EReal) := by
  have hp : (0 : ℝ) < if c = T b then 9 / 10 else 1 / 999990 := by split <;> norm_num
  unfold terms
  rw [term_any, dist_at t T hT, logp_at x X hX, Reals.log_real hp, ← EReal.coe_sub, ← EReal.coe_mul]

/-- The reference's result, as a real number. -/
theorem result (j : S_.Idx) : loss x t j
    = (((∑ b, ∑ c, (if c = T b then 9 / 10 else 1 / 999990) * (Real.log (if c = T b then 9 / 10 else 1 / 999990) - (X b c - Real.log (∑ k, Real.exp (X b k))))) / 1024 : ℝ) : EReal) := by
  rw [loss_eq, Finset.sum_congr rfl fun b _ => (Finset.sum_congr rfl fun c _ => terms_at x t T hT X hX b c).trans (Reals.sum_real _ _),
    Reals.sum_real, Reals.of_rows, Reals.div_real (by norm_num)]

omit hX

/-! ## Infinite scores -/

omit hT in
/-- A score is at most its row's greatest, -/
theorem le_top (b : Fin 1024) (c : Fin 100000) : x (ix2 b c) ≤ top x (ix1 b) := by
  rw [top_at, Reals.of_ninf]
  exact Wide.le_top (fun k : Fin 100000 => x (ix2 b k)) c

omit hT in
/-- and what is left of it is the score less that. -/
theorem low_at (b : Fin 1024) (c : Fin 100000) : low x (ix2 b c) = x (ix2 b c) - top x (ix1 b) := by
  unfold low
  rw [sub_any, along_at]

omit hT in
/-- A logarithm of a probability, in those names. -/
theorem logp_low (b : Fin 1024) (c : Fin 100000) : logp x (ix2 b c) = low x (ix2 b c) - Ideal.log (∑ k : Fin 100000, Ideal.exp (low x (ix2 b k))) := by
  rw [logp_eq, sub_any, log_along, sums_at]

omit hT in
/-- No logarithm of a probability is infinity, -/
theorem logp_ne_top (b : Fin 1024) (c : Fin 100000) : logp x (ix2 b c) ≠ ⊤ := by
  rw [logp_low]
  exact Wide.logp_ne_top (fun k : Fin 100000 => low x (ix2 b k)) (fun k => by rw [low_at]; exact Wide.sub_ne_top (le_top x b k)) c

omit hT in
/-- and an infinite score's is minus infinity. -/
theorem logp_bot (b : Fin 1024) (c : Fin 100000) (h : x (ix2 b c) = ⊤ ∨ x (ix2 b c) = ⊥) : logp x (ix2 b c) = ⊥ := by
  rw [logp_low, low_at, Wide.sub_bot (le_top x b c) h, EReal.bot_sub]

omit hT in
/-- A class's share is positive. -/
theorem share_pos (b : Fin 1024) (c : Fin 100000) : (0 : ℝ) < if c = T b then 9 / 10 else 1 / 999990 := by split <;> norm_num

/-- No term is minus infinity, -/
theorem terms_ne_bot (b : Fin 1024) (c : Fin 100000) : terms x t (ix2 b c) ≠ ⊥ := by
  unfold terms
  rw [term_any, dist_at t T hT]
  exact Wide.dist_ne_bot (share_pos T b c) (logp_ne_top x b c)

/-- and an infinite score's is infinity. -/
theorem terms_top (b : Fin 1024) (c : Fin 100000) (h : x (ix2 b c) = ⊤ ∨ x (ix2 b c) = ⊥) : terms x t (ix2 b c) = ⊤ := by
  unfold terms
  rw [term_any, dist_at t T hT]
  exact Wide.dist_top (share_pos T b c) (logp_bot x b c h)

/-- The reference's result where a score is infinite: infinity. -/
theorem result_top (b : Fin 1024) (c : Fin 100000) (h : x (ix2 b c) = ⊤ ∨ x (ix2 b c) = ⊥) (j : S_.Idx) : loss x t j = ⊤ := by
  have e : ∑ b : Fin 1024, ∑ c : Fin 100000, terms x t (ix2 b c) = ⊤ :=
    Wide.sum_top (Finset.mem_univ b) (Wide.sum_top (Finset.mem_univ c) (terms_top x t T hT b c h) fun k _ => terms_ne_bot x t T hT b k)
      fun a _ => Wide.sum_ne_bot fun k _ => terms_ne_bot x t T hT a k
  rw [loss_eq, e, Reals.of_rows, Ideal.div_coe (by norm_num), EReal.top_mul_coe_of_pos (by norm_num)]

end Cert.Proof.RVal

end
-- ==== Proof.Value.lean ====
/-
  The value: at real scores the kernel's result and the reference's are one real number, and where a score is infinite both
  are infinity.
-/
module

public import proofs.«01_k».proof.Proof.KVal
public import proofs.«01_k».proof.Proof.RVal
public import proofs.«01_k».proof.Proof.Pre

@[expose] public section

noncomputable section

namespace Cert.Proof.Value

open Idealize.ShloMosaic Idealize.SL.Sem

/-- The reference's real number is the kernel's: row by row, then summed. -/
theorem totals (X : Fin 1024 → Fin 100000 → ℝ) (T : Fin 1024 → Fin 100000) :
    (∑ b, ∑ c, (if c = T b then 9 / 10 else 1 / 999990) * (Real.log (if c = T b then 9 / 10 else 1 / 999990) - (X b c - Real.log (∑ k, Real.exp (X b k))))) / 1024
      = 99999 * (1 / 999990) * Real.log (1 / 999990) + 9 / 10 * Real.log (9 / 10)
        - (∑ b, (1 / 999990 * ∑ c, X b c - Real.log (∑ c, Real.exp (X b c)) + 89999 / 99999 * X b (T b))) / 1024 := by
  rw [Finset.sum_congr rfl fun b _ => Reals.row (X b) (T b) (Real.log (∑ k, Real.exp (X b k))) (9 / 10) (1 / 999990) (by rw [Fintype.card_fin]; norm_num),
    Finset.sum_sub_distrib, Finset.sum_const, Finset.card_univ, Fintype.card_fin, Fintype.card_fin, nsmul_eq_mul, sub_div]
  norm_num

/-- The kernel's result is the reference's, at arguments the precondition holds of. -/
theorem agree (m : (ℓ : Loc Cert.KernelIdeal.nD Cert.KernelIdeal.τ Cert.KernelIdeal.sig) → Buf (Elt Ideal) ℓ) (h : Cert.Pre_KernelIdeal m)
    (d : Dev Cert.KernelIdeal.nD) : Ref.loss (F := Ideal) (m (Run.xLoc d)) (m (Run.tLoc d)) = Run.lastOf (Run.lossBuf (Run.V3r m) d) := by
  obtain ⟨X, hX⟩ : ∃ X : Fin 1024 → Fin 100000 → EReal, ∀ b c, (m (Run.xLoc d) : Vec Ideal Cert.KernelIdeal.S1024x100000 .f32) (ix2 b c) = X b c :=
    ⟨fun b c => (m (Run.xLoc d) : Vec Ideal Cert.KernelIdeal.S1024x100000 .f32) (ix2 b c), fun _ _ => rfl⟩
  obtain ⟨T, hT⟩ : ∃ T : Fin 1024 → Fin 100000, ∀ b, ((m (Run.tLoc d) : Vec Ideal Cert.KernelIdeal.S1024 .i32) (ix1 b)).toNat = (T b).val :=
    ⟨fun b => ⟨_, Pre.of_in_range (h d) (ix1 b)⟩, fun _ => rfl⟩
  funext j
  by_cases q : ∃ b c, X b c = ⊤ ∨ X b c = ⊥
  · obtain ⟨b, c, e⟩ := q
    exact (RVal.result_top (m (Run.xLoc d)) (m (Run.tLoc d)) T hT b c ((hX b c).symm ▸ e) j).trans (KVal.result_top m d X hX T hT b c e j).symm
  · have r : ∀ b c, ∃ y : ℝ, X b c = (y : EReal) := fun b c => Wide.real_of fun e => q ⟨b, c, e⟩
    choose Y hY using r
    refine (RVal.result (m (Run.xLoc d)) (m (Run.tLoc d)) T hT Y (fun b c => (hX b c).trans (hY b c)) j).trans ?_
    rw [totals Y T]
    exact (KVal.result m d T hT Y (fun b c => (hX b c).trans (hY b c)) j).symm

/-- The value claim: from arguments that agree, both programs run, and end with equal results. -/
theorem algebraic : Cert.algebraic_KernelIdeal_ReferenceIdeal := fun m g m' g' h e =>
  ⟨fun c => Run.lastOf (Run.lossBuf (Run.V3r m) c),
    θ_run_mono (Run.run_value (F := Ideal) m g fun d j => Pre.of_in_range (h d) j) fun _ q => q.1,
    θ_run_mono (Ref.run (F := Ideal) m' g') fun r q c => by
      refine ⟨((q.1 c).1.trans ?_), (q.1 c).2⟩
      rw [(e c).1, (e c).2]
      exact agree m h c⟩

end Cert.Proof.Value

end
-- ==== Proof.lean ====
/-
  The proof of the certificate: the frames of the kernel, of the reference and of their idealizations, the named constants,
  and the value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frames
public import proofs.«01_k».proof.Proof.RefBits
public import proofs.«01_k».proof.Proof.Value

@[expose] public section

noncomputable section

namespace Cert.Proof

open Idealize.ShloMosaic

/-- Each named constant is the rational its name is read as. -/
theorem preserves : Cert.preserves_Kernel_KernelIdeal :=
  ⟨IdealRules.named_const.statement Cert.KernelIdeal.κ "eps" .f32 0x35863815#32 ((1 / 999990 : ℝ) : EReal) rfl,
    IdealRules.named_const.statement Cert.KernelIdeal.κ "conf_less_eps" .f32 0x3F666656#32 ((89999 / 99999 : ℝ) : EReal) rfl⟩

/-- The certificate's claims. -/
theorem claim : Cert.Claim :=
  ⟨Cert.Kernel.Gen.facts, Cert.KernelIdeal.Gen.facts, RefBits.facts, Cert.ReferenceIdeal.Gen.facts, Cert.Pre_in_range.Gen.facts,
    Frames.frame_Kernel, Frames.frame_KernelIdeal, RefBits.frame, Ref.frame, Ref.frame_pre, preserves, Value.algebraic⟩

end Cert.Proof

end
